-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8x256 : Shape := ⟨3, ![2048, 8, 256]⟩
abbrev S2048x8x1792 : Shape := ⟨3, ![2048, 8, 1792]⟩
abbrev S256x8x1792 : Shape := ⟨3, ![256, 8, 1792]⟩
abbrev S2x262x8x256 : Shape := ⟨4, ![2, 262, 8, 256]⟩
abbrev S2 : Shape := ⟨1, ![2]⟩
abbrev S1 : Shape := ⟨1, ![1]⟩
abbrev S_ : Shape := ⟨0, ![]⟩
abbrev S1x259x8x256 : Shape := ⟨4, ![1, 259, 8, 256]⟩
abbrev S259x8x256 : Shape := ⟨3, ![259, 8, 256]⟩
abbrev S1x262x8x256 : Shape := ⟨4, ![1, 262, 8, 256]⟩
abbrev S262x8x256 : Shape := ⟨3, ![262, 8, 256]⟩
abbrev S1x1x8x256 : Shape := ⟨4, ![1, 1, 8, 256]⟩
abbrev S1x8x256 : Shape := ⟨3, ![1, 8, 256]⟩
abbrev S1x1x128 : Shape := ⟨3, ![1, 1, 128]⟩
abbrev S262x8x128 : Shape := ⟨3, ![262, 8, 128]⟩
abbrev S1x262x8x128 : Shape := ⟨4, ![1, 262, 8, 128]⟩
abbrev S262x8x128x1 : Shape := ⟨4, ![262, 8, 128, 1]⟩
abbrev S256x8x128 : Shape := ⟨3, ![256, 8, 128]⟩

abbrev nBuf : Space → Nat
  | .hbm => 2
  | .vmem => 3
  | .smem => 0
  | _ => 0

abbrev bufTy : (tb : Table) → Fin (tcTables nBuf tb) → BufTy
  | .hbm, ⟨0, _⟩ => ⟨S2048x8x256, .f32⟩
  | .hbm, ⟨1, _⟩ => ⟨S2048x8x1792, .f32⟩
  | .local _ .vmem, ⟨0, _⟩ => ⟨S256x8x1792, .f32⟩
  | .local _ .vmem, ⟨1, _⟩ => ⟨S256x8x1792, .f32⟩
  | .local _ .vmem, ⟨2, _⟩ => ⟨S2x262x8x256, .f32⟩
  | _, _ => ⟨S2048x8x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v3 : BitVec 1 := Scalar.cmpi .slt arg0 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_250 : BitVec 32 := 1#32
  let v902 : BitVec 32 := Scalar.addi arg0 c1_i32_250
  let c0_i32_258 : BitVec 32 := 0#32
  let v914 : BitVec 1 := Scalar.cmpi .eq v902 c0_i32_258
  let v915 : BitVec 32 := Scalar.extui v914
  let c0_i32_259 : BitVec 32 := 0#32
  let v916 : BitVec 1 := Scalar.cmpi .ne v915 c0_i32_259
  v916

def k0_off1 (i : grid0.Coords) : Fin 1 → Nat :=
  let arg0 : BitVec 32 := BitVec.ofNat 32 (i 0).val
  let c1_i32_251 : BitVec 32 := 1#32
  let v903 : BitVec 32 := Scalar.addi arg0 c1_i32_251
  let c2_i32_252 : BitVec 32 := 2#32
  let c0_i32_253 : BitVec 32 := 0#32
  let v904 : BitVec 1 := Scalar.cmpi .eq c2_i32_252 c0_i32_253
  let c1_i32_254 : BitVec 32 := 1#32
  let v905 : BitVec 32 := Scalar.select v904 c1_i32_254 c2_i32_252
  let v906 : BitVec 32 := Scalar.remsi v903 v905
  let c0_i32_256 : BitVec 32 := 0#32
  let v908 : BitVec 1 := Scalar.cmpi .slt v906 c0_i32_256
  let c0_i32_257 : BitVec 32 := 0#32
  let v909 : BitVec 1 := Scalar.cmpi .slt v905 c0_i32_257
  let v910 : BitVec 1 := Scalar.xori v908 v909
  let c0_i32_255 : BitVec 32 := 0#32
  let v907 : BitVec 1 := Scalar.cmpi .ne v906 c0_i32_255
  let v911 : BitVec 1 := Scalar.andi v910 v907
  let v912 : BitVec 32 := Scalar.addi v906 v905
  let v913 : BitVec 32 := Scalar.select v911 v912 v906
  ![v913.toNat]
def k0_off2 (i : grid0.Coords) : Fin 4 → Nat :=
  let arg0 : BitVec 32 := BitVec.ofNat 32 (i 0).val
  let c1_i32_251 : BitVec 32 := 1#32
  let v903 : BitVec 32 := Scalar.addi arg0 c1_i32_251
  let c2_i32_252 : BitVec 32 := 2#32
  let c0_i32_253 : BitVec 32 := 0#32
  let v904 : BitVec 1 := Scalar.cmpi .eq c2_i32_252 c0_i32_253
  let c1_i32_254 : BitVec 32 := 1#32
  let v905 : BitVec 32 := Scalar.select v904 c1_i32_254 c2_i32_252
  let v906 : BitVec 32 := Scalar.remsi v903 v905
  let c0_i32_256 : BitVec 32 := 0#32
  let v908 : BitVec 1 := Scalar.cmpi .slt v906 c0_i32_256
  let c0_i32_257 : BitVec 32 := 0#32
  let v909 : BitVec 1 := Scalar.cmpi .slt v905 c0_i32_257
  let v910 : BitVec 1 := Scalar.xori v908 v909
  let c0_i32_255 : BitVec 32 := 0#32
  let v907 : BitVec 1 := Scalar.cmpi .ne v906 c0_i32_255
  let v911 : BitVec 1 := Scalar.andi v910 v907
  let v912 : BitVec 32 := Scalar.addi v906 v905
  let v913 : BitVec 32 := Scalar.select v911 v912 v906
  let c3_i32_265 : BitVec 32 := 3#32
  let c0_i32_266 : BitVec 32 := 0#32
  let c0_i32_267 : BitVec 32 := 0#32
  ![v913.toNat, 3, 0, 0]
def k0_cond4 (i : grid0.Coords) : BitVec 1 :=
  let arg0 : BitVec 32 := BitVec.ofNat 32 (i 0).val
  let c1_i32_250 : BitVec 32 := 1#32
  let v902 : BitVec 32 := Scalar.addi arg0 c1_i32_250
  let c0_i32_260 : BitVec 32 := 0#32
  let v917 : BitVec 1 := Scalar.cmpi .sgt v902 c0_i32_260
  let c7_i32_261 : BitVec 32 := 7#32
  let v918 : BitVec 1 := Scalar.cmpi .slt v902 c7_i32_261
  let v919 : BitVec 1 := Scalar.andi v917 v918
  let v920 : BitVec 32 := Scalar.extui v919
  let c0_i32_262 : BitVec 32 := 0#32
  let v921 : BitVec 1 := Scalar.cmpi .ne v920 c0_i32_262
  v921

def k0_off3 (i : grid0.Coords) : Fin 1 → Nat :=
  let arg0 : BitVec 32 := BitVec.ofNat 32 (i 0).val
  let c1_i32_251 : BitVec 32 := 1#32
  let v903 : BitVec 32 := Scalar.addi arg0 c1_i32_251
  let c2_i32_252 : BitVec 32 := 2#32
  let c0_i32_253 : BitVec 32 := 0#32
  let v904 : BitVec 1 := Scalar.cmpi .eq c2_i32_252 c0_i32_253
  let c1_i32_254 : BitVec 32 := 1#32
  let v905 : BitVec 32 := Scalar.select v904 c1_i32_254 c2_i32_252
  let v906 : BitVec 32 := Scalar.remsi v903 v905
  let c0_i32_256 : BitVec 32 := 0#32
  let v908 : BitVec 1 := Scalar.cmpi .slt v906 c0_i32_256
  let c0_i32_257 : BitVec 32 := 0#32
  let v909 : BitVec 1 := Scalar.cmpi .slt v905 c0_i32_257
  let v910 : BitVec 1 := Scalar.xori v908 v909
  let c0_i32_255 : BitVec 32 := 0#32
  let v907 : BitVec 1 := Scalar.cmpi .ne v906 c0_i32_255
  let v911 : BitVec 1 := Scalar.andi v910 v907
  let v912 : BitVec 32 := Scalar.addi v906 v905
  let v913 : BitVec 32 := Scalar.select v911 v912 v906
  ![v913.toNat]
def k0_off4 (i : grid0.Coords) : Fin 4 → Nat :=
  let arg0 : BitVec 32 := BitVec.ofNat 32 (i 0).val
  let c1_i32_251 : BitVec 32 := 1#32
  let v903 : BitVec 32 := Scalar.addi arg0 c1_i32_251
  let c2_i32_252 : BitVec 32 := 2#32
  let c0_i32_253 : BitVec 32 := 0#32
  let v904 : BitVec 1 := Scalar.cmpi .eq c2_i32_252 c0_i32_253
  let c1_i32_254 : BitVec 32 := 1#32
  let v905 : BitVec 32 := Scalar.select v904 c1_i32_254 c2_i32_252
  let v906 : BitVec 32 := Scalar.remsi v903 v905
  let c0_i32_256 : BitVec 32 := 0#32
  let v908 : BitVec 1 := Scalar.cmpi .slt v906 c0_i32_256
  let c0_i32_257 : BitVec 32 := 0#32
  let v909 : BitVec 1 := Scalar.cmpi .slt v905 c0_i32_257
  let v910 : BitVec 1 := Scalar.xori v908 v909
  let c0_i32_255 : BitVec 32 := 0#32
  let v907 : BitVec 1 := Scalar.cmpi .ne v906 c0_i32_255
  let v911 : BitVec 1 := Scalar.andi v910 v907
  let v912 : BitVec 32 := Scalar.addi v906 v905
  let v913 : BitVec 32 := Scalar.select v911 v912 v906
  let c0_i32_267 : BitVec 32 := 0#32
  let c0_i32_268 : BitVec 32 := 0#32
  let c0_i32_269 : BitVec 32 := 0#32
  ![v913.toNat, 0, 0, 0]
def k0_off5 (i : grid0.Coords) : Fin 3 → Nat :=
  let arg0 : BitVec 32 := BitVec.ofNat 32 (i 0).val
  let c1_i32_250 : BitVec 32 := 1#32
  let v902 : BitVec 32 := Scalar.addi arg0 c1_i32_250
  let c256_i32_265 : BitVec 32 := 256#32
  let v925 : BitVec 32 := Scalar.muli v902 c256_i32_265
  let c3_i32_266 : BitVec 32 := 3#32
  let v926 : BitVec 32 := Scalar.subi v925 c3_i32_266
  let c0_i32_270 : BitVec 32 := 0#32
  let c0_i32_271 : BitVec 32 := 0#32
  ![v926.toNat, 0, 0]
def k0_cond5 (i : grid0.Coords) : BitVec 1 :=
  let arg0 : BitVec 32 := BitVec.ofNat 32 (i 0).val
  let c1_i32_250 : BitVec 32 := 1#32
  let v902 : BitVec 32 := Scalar.addi arg0 c1_i32_250
  let c7_i32_263 : BitVec 32 := 7#32
  let v922 : BitVec 1 := Scalar.cmpi .eq v902 c7_i32_263
  let v923 : BitVec 32 := Scalar.extui v922
  let c0_i32_264 : BitVec 32 := 0#32
  let v924 : BitVec 1 := Scalar.cmpi .ne v923 c0_i32_264
  v924

def k0_off6 (i : grid0.Coords) : Fin 1 → Nat :=
  let arg0 : BitVec 32 := BitVec.ofNat 32 (i 0).val
  let c1_i32_251 : BitVec 32 := 1#32
  let v903 : BitVec 32 := Scalar.addi arg0 c1_i32_251
  let c2_i32_252 : BitVec 32 := 2#32
  let c0_i32_253 : BitVec 32 := 0#32
  let v904 : BitVec 1 := Scalar.cmpi .eq c2_i32_252 c0_i32_253
  let c1_i32_254 : BitVec 32 := 1#32
  let v905 : BitVec 32 := Scalar.select v904 c1_i32_254 c2_i32_252
  let v906 : BitVec 32 := Scalar.remsi v903 v905
  let c0_i32_256 : BitVec 32 := 0#32
  let v908 : BitVec 1 := Scalar.cmpi .slt v906 c0_i32_256
  let c0_i32_257 : BitVec 32 := 0#32
  let v909 : BitVec 1 := Scalar.cmpi .slt v905 c0_i32_257
  let v910 : BitVec 1 := Scalar.xori v908 v909
  let c0_i32_255 : BitVec 32 := 0#32
  let v907 : BitVec 1 := Scalar.cmpi .ne v906 c0_i32_255
  let v911 : BitVec 1 := Scalar.andi v910 v907
  let v912 : BitVec 32 := Scalar.addi v906 v905
  let v913 : BitVec 32 := Scalar.select v911 v912 v906
  ![v913.toNat]
def k0_off7 (i : grid0.Coords) : Fin 4 → Nat :=
  let arg0 : BitVec 32 := BitVec.ofNat 32 (i 0).val
  let c1_i32_251 : BitVec 32 := 1#32
  let v903 : BitVec 32 := Scalar.addi arg0 c1_i32_251
  let c2_i32_252 : BitVec 32 := 2#32
  let c0_i32_253 : BitVec 32 := 0#32
  let v904 : BitVec 1 := Scalar.cmpi .eq c2_i32_252 c0_i32_253
  let c1_i32_254 : BitVec 32 := 1#32
  let v905 : BitVec 32 := Scalar.select v904 c1_i32_254 c2_i32_252
  let v906 : BitVec 32 := Scalar.remsi v903 v905
  let c0_i32_256 : BitVec 32 := 0#32
  let v908 : BitVec 1 := Scalar.cmpi .slt v906 c0_i32_256
  let c0_i32_257 : BitVec 32 := 0#32
  let v909 : BitVec 1 := Scalar.cmpi .slt v905 c0_i32_257
  let v910 : BitVec 1 := Scalar.xori v908 v909
  let c0_i32_255 : BitVec 32 := 0#32
  let v907 : BitVec 1 := Scalar.cmpi .ne v906 c0_i32_255
  let v911 : BitVec 1 := Scalar.andi v910 v907
  let v912 : BitVec 32 := Scalar.addi v906 v905
  let v913 : BitVec 32 := Scalar.select v911 v912 v906
  let c0_i32_265 : BitVec 32 := 0#32
  let c0_i32_266 : BitVec 32 := 0#32
  let c0_i32_267 : BitVec 32 := 0#32
  ![v913.toNat, 0, 0, 0]
def k0_cond6 (i : grid0.Coords) : BitVec 1 :=
  let arg0 : BitVec 32 := BitVec.ofNat 32 (i 0).val
  let c0_i32_6 : BitVec 32 := 0#32
  let v16 : BitVec 1 := Scalar.cmpi .eq arg0 c0_i32_6
  let v17 : BitVec 32 := Scalar.extui v16
  let c0_i32_7 : BitVec 32 := 0#32
  let v18 : BitVec 1 := Scalar.cmpi .ne v17 c0_i32_7
  v18

def k0_off8 (i : grid0.Coords) : Fin 1 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  ![v15.toNat]
def k0_off9 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c3_i32_250 : BitVec 32 := 3#32
  let c0_i32_251 : BitVec 32 := 0#32
  let c0_i32_252 : BitVec 32 := 0#32
  ![v15.toNat, 3, 0, 0]
def k0_cond7 (i : grid0.Coords) : BitVec 1 :=
  let arg0 : BitVec 32 := BitVec.ofNat 32 (i 0).val
  let c0_i32_8 : BitVec 32 := 0#32
  let v19 : BitVec 1 := Scalar.cmpi .sgt arg0 c0_i32_8
  let c7_i32_9 : BitVec 32 := 7#32
  let v20 : BitVec 1 := Scalar.cmpi .slt arg0 c7_i32_9
  let v21 : BitVec 1 := Scalar.andi v19 v20
  let v22 : BitVec 32 := Scalar.extui v21
  let c0_i32_10 : BitVec 32 := 0#32
  let v23 : BitVec 1 := Scalar.cmpi .ne v22 c0_i32_10
  v23

def k0_off10 (i : grid0.Coords) : Fin 1 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  ![v15.toNat]
def k0_off11 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_252 : BitVec 32 := 0#32
  let c0_i32_253 : BitVec 32 := 0#32
  let c0_i32_254 : BitVec 32 := 0#32
  ![v15.toNat, 0, 0, 0]
def k0_off12 (i : grid0.Coords) : Fin 3 → Nat :=
  let arg0 : BitVec 32 := BitVec.ofNat 32 (i 0).val
  let c256_i32_250 : BitVec 32 := 256#32
  let v902 : BitVec 32 := Scalar.muli arg0 c256_i32_250
  let c3_i32_251 : BitVec 32 := 3#32
  let v903 : BitVec 32 := Scalar.subi v902 c3_i32_251
  let c0_i32_255 : BitVec 32 := 0#32
  let c0_i32_256 : BitVec 32 := 0#32
  ![v903.toNat, 0, 0]
def k0_cond8 (i : grid0.Coords) : BitVec 1 :=
  let arg0 : BitVec 32 := BitVec.ofNat 32 (i 0).val
  let c7_i32_11 : BitVec 32 := 7#32
  let v24 : BitVec 1 := Scalar.cmpi .eq arg0 c7_i32_11
  let v25 : BitVec 32 := Scalar.extui v24
  let c0_i32_12 : BitVec 32 := 0#32
  let v26 : BitVec 1 := Scalar.cmpi .ne v25 c0_i32_12
  v26

def k0_off13 (i : grid0.Coords) : Fin 1 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  ![v15.toNat]
def k0_off14 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_250 : BitVec 32 := 0#32
  let c0_i32_251 : BitVec 32 := 0#32
  let c0_i32_252 : BitVec 32 := 0#32
  ![v15.toNat, 0, 0, 0]
def k0_cond9 (i : grid0.Coords) : BitVec 1 :=
  let arg0 : BitVec 32 := BitVec.ofNat 32 (i 0).val
  let c0_i32_13 : BitVec 32 := 0#32
  let v27 : BitVec 1 := Scalar.cmpi .eq arg0 c0_i32_13
  let v28 : BitVec 32 := Scalar.extui v27
  let c0_i32_14 : BitVec 32 := 0#32
  let v29 : BitVec 1 := Scalar.cmpi .ne v28 c0_i32_14
  v29

def k0_off15 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v902 : Index := Scalar.indexCast v15
  let c3 : Index := 3#32
  let c0_250 : Index := 0#32
  let c0_251 : Index := 0#32
  ![v902.toNat, 3, 0, 0]
def k0_off16 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v905 : Index := Scalar.indexCast v15
  let c0_252 : Index := 0#32
  let c0_253 : Index := 0#32
  let c0_254 : Index := 0#32
  ![v905.toNat, 0, 0, 0]
def k0_off17 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v912 : Index := Scalar.indexCast v15
  let c1 : Index := 1#32
  let c0_258 : Index := 0#32
  let c0_259 : Index := 0#32
  ![v912.toNat, 1, 0, 0]
def k0_off18 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v919 : Index := Scalar.indexCast v15
  let c2 : Index := 2#32
  let c0_263 : Index := 0#32
  let c0_264 : Index := 0#32
  ![v919.toNat, 2, 0, 0]
def k0_cond10 (i : grid0.Coords) : BitVec 1 :=
  let arg0 : BitVec 32 := BitVec.ofNat 32 (i 0).val
  let c7_i32_15 : BitVec 32 := 7#32
  let v30 : BitVec 1 := Scalar.cmpi .eq arg0 c7_i32_15
  let v31 : BitVec 32 := Scalar.extui v30
  let c0_i32_16 : BitVec 32 := 0#32
  let v32 : BitVec 1 := Scalar.cmpi .ne v31 c0_i32_16
  v32

def k0_off19 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v902 : Index := Scalar.indexCast v15
  let c258 : Index := 258#32
  let c0_250 : Index := 0#32
  let c0_251 : Index := 0#32
  ![v902.toNat, 258, 0, 0]
def k0_off20 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v905 : Index := Scalar.indexCast v15
  let c259 : Index := 259#32
  let c0_252 : Index := 0#32
  let c0_253 : Index := 0#32
  ![v905.toNat, 259, 0, 0]
def k0_off21 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v912 : Index := Scalar.indexCast v15
  let c260 : Index := 260#32
  let c0_257 : Index := 0#32
  let c0_258 : Index := 0#32
  ![v912.toNat, 260, 0, 0]
def k0_off22 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v919 : Index := Scalar.indexCast v15
  let c261 : Index := 261#32
  let c0_262 : Index := 0#32
  let c0_263 : Index := 0#32
  ![v919.toNat, 261, 0, 0]
def k0_off23 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v59 : Index := Scalar.indexCast v15
  let c0 : Index := 0#32
  let c0_22 : Index := 0#32
  let c0_23 : Index := 0#32
  ![v59.toNat, 0, 0, 0]
def k0_off24 (i : grid0.Coords) : Fin 4 → Nat :=
  let arg0 : BitVec 32 := BitVec.ofNat 32 (i 0).val
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let v493 : Index := Scalar.indexCast v15
  let c0_141 : Index := 0#32
  let c0_142 : Index := 0#32
  let c128_143 : Index := 128#32
  ![v493.toNat, 0, 0, 128]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S2048x8x256 : Shape := ⟨3, ![2048, 8, 256]⟩
abbrev S1x8x256 : Shape := ⟨3, ![1, 8, 256]⟩
abbrev S3x8x256 : Shape := ⟨3, ![3, 8, 256]⟩
abbrev S2054x8x256 : Shape := ⟨3, ![2054, 8, 256]⟩
abbrev S2048x8x256x1 : Shape := ⟨4, ![2048, 8, 256, 1]⟩
abbrev S2048x8x256x7 : Shape := ⟨4, ![2048, 8, 256, 7]⟩
abbrev S2048x8x1792 : Shape := ⟨3, ![2048, 8, 1792]⟩

abbrev nBuf : Space → Nat
  | .hbm => 22
  | .vmem => 0
  | .smem => 0
  | _ => 0

abbrev bufTy : (tb : Table) → Fin (tcTables nBuf tb) → BufTy
  | .hbm, ⟨0, _⟩ => ⟨S2048x8x256, .f32⟩
  | .hbm, ⟨1, _⟩ => ⟨S1x8x256, .f32⟩
  | .hbm, ⟨2, _⟩ => ⟨S3x8x256, .f32⟩
  | .hbm, ⟨3, _⟩ => ⟨S1x8x256, .f32⟩
  | .hbm, ⟨4, _⟩ => ⟨S3x8x256, .f32⟩
  | .hbm, ⟨5, _⟩ => ⟨S2054x8x256, .f32⟩
  | .hbm, ⟨6, _⟩ => ⟨S2048x8x256, .f32⟩
  | .hbm, ⟨7, _⟩ => ⟨S2048x8x256, .f32⟩
  | .hbm, ⟨8, _⟩ => ⟨S2048x8x256, .f32⟩
  | .hbm, ⟨9, _⟩ => ⟨S2048x8x256, .f32⟩
  | .hbm, ⟨10, _⟩ => ⟨S2048x8x256, .f32⟩
  | .hbm, ⟨11, _⟩ => ⟨S2048x8x256, .f32⟩
  | .hbm, ⟨12, _⟩ => ⟨S2048x8x256, .f32⟩
  | .hbm, ⟨13, _⟩ => ⟨S2048x8x256x1, .f32⟩
  | .hbm, ⟨14, _⟩ => ⟨S2048x8x256x1, .f32⟩
  | .hbm, ⟨15, _⟩ => ⟨S2048x8x256x1, .f32⟩
  | .hbm, ⟨16, _⟩ => ⟨S2048x8x256x1, .f32⟩
  | .hbm, ⟨17, _⟩ => ⟨S2048x8x256x1, .f32⟩
  | .hbm, ⟨18, _⟩ => ⟨S2048x8x256x1, .f32⟩
  | .hbm, ⟨19, _⟩ => ⟨S2048x8x256x1, .f32⟩
  | .hbm, ⟨20, _⟩ => ⟨S2048x8x256x7, .f32⟩
  | .hbm, ⟨21, _⟩ => ⟨S2048x8x1792, .f32⟩
  | _, _ => ⟨S2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩

abbrev nD : Nat := 1
abbrev τ : Topo := Topo.v7x

variable {F : FTy → Type} [FloatOps F]
-- ==== Proof.Id.Ring.lean ====
/- The kernel's two-slot ring: names for the slots and their parts, the blocks of the operand each transfer reads, the
   cells; what the scratch holds when a block is in place; the branch conditions and the offsets in closed form; the
   state of the ring between two grid points. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## Names -/

instance : NeZero grid0.N := ⟨by rw [N_0]; decide⟩

/-- The kernel's scratch, whole: two slots of 262 rows each. -/
abbrev scM : Memref sig .tc .vmem S2x262x8x256 .f32 := Memref.whole cc0_scratch0
/-- The operand, whole, where the launch left it. -/
abbrev hbM : Memref sig .tc .hbm S2048x8x256 .f32 := Memref.whole main_arg0
/-- Three rows of one slot. -/
abbrev SRows : Shape := ⟨4, ![1, 3, 8, 256]⟩

/-- The contents of a memref's buffer on core `c`. -/
abbrev BufOf (c : Dev nD) {sp : Space} {S : Shape} {e : EltTy} (M : Memref sig .tc sp S e) : Type :=
  Buf (Elt F) (M.view.loc (c : Thread nD τ))
/-- A memref's elements held at full share at contents `f`. -/
abbrev held (c : Dev nD) {sp : Space} {S : Shape} {e : EltTy} (M : Memref sig .tc sp S e) (f : BufOf (F := F) c M) : sProp 𝕄 :=
  M.view.loc (c : Thread nD τ) ↦[M.view.set]{fullShare} f

theorem inb_slot (s : Fin 2) : ∀ a, (![s.val, 0, 0, 0] : Fin 4 → Nat) a + S1x262x8x256.size a ≤ S2x262x8x256.size a := by
  have := s.isLt; intro a; fin_cases a <;> simp <;> omega
theorem inb_part (s : Fin 2) (o : ℕ) (h : o ≤ 3) : ∀ a, (![s.val, o, 0, 0] : Fin 4 → Nat) a + S1x259x8x256.size a ≤ S2x262x8x256.size a := by
  have := s.isLt; intro a; fin_cases a <;> simp <;> omega
theorem inb_rows (s : Fin 2) (o : ℕ) (h : o ≤ 259) : ∀ a, (![s.val, o, 0, 0] : Fin 4 → Nat) a + SRows.size a ≤ S2x262x8x256.size a := by
  have := s.isLt; intro a; fin_cases a <;> simp <;> omega
theorem inb_mid (b : ℕ) (h : b ≤ 6) : ∀ a, (![256 * b - 3, 0, 0] : Fin 3 → Nat) a + S262x8x256.size a ≤ S2048x8x256.size a := by
  intro a; fin_cases a <;> simp <;> omega
theorem inb_cell (s : Fin 2) : ∀ a, (![s.val] : Fin 1 → Nat) a + S1.size a ≤ S2.size a := by
  have := s.isLt; intro a; fin_cases a <;> simp <;> omega

/-- Slot `s`, all 262 rows. -/
def rslot (s : Fin 2) : Memref sig .tc .vmem S262x8x256 .f32 :=
  (scM.slice (Rect.unit (s := S2x262x8x256) ![s.val, 0, 0, 0] S1x262x8x256.size (inb_slot s)) (fun _ => rfl)).squeeze S262x8x256 squeezes_S1x262x8x256_S262x8x256
/-- Slot `s` without its first three rows: what the first block's transfer fills. -/
def headM (s : Fin 2) : Memref sig .tc .vmem S259x8x256 .f32 :=
  (scM.slice (Rect.unit (s := S2x262x8x256) ![s.val, 3, 0, 0] S1x259x8x256.size (inb_part s 3 (by decide))) (fun _ => rfl)).squeeze S259x8x256 squeezes_S1x259x8x256_S259x8x256
/-- Slot `s` without its last three rows: what the last block's transfer fills. -/
def tailM (s : Fin 2) : Memref sig .tc .vmem S259x8x256 .f32 :=
  (scM.slice (Rect.unit (s := S2x262x8x256) ![s.val, 0, 0, 0] S1x259x8x256.size (inb_part s 0 (by decide))) (fun _ => rfl)).squeeze S259x8x256 squeezes_S1x259x8x256_S259x8x256
/-- Slot `s`'s first three rows. -/
def lowM (s : Fin 2) : Memref sig .tc .vmem SRows .f32 :=
  scM.slice (Rect.unit (s := S2x262x8x256) ![s.val, 0, 0, 0] SRows.size (inb_rows s 0 (by decide))) (fun _ => rfl)
/-- Slot `s`'s last three rows. -/
def highM (s : Fin 2) : Memref sig .tc .vmem SRows .f32 :=
  scM.slice (Rect.unit (s := S2x262x8x256) ![s.val, 259, 0, 0] SRows.size (inb_rows s 259 (by decide))) (fun _ => rfl)

/-- The operand's rows `256 b - 3 … 256 b + 258`: a block in the middle. -/
def srcMid (b : ℕ) (h : b ≤ 6) : Memref sig .tc .hbm S262x8x256 .f32 :=
  hbM.slice (Rect.unit (s := S2048x8x256) ![256 * b - 3, 0, 0] S262x8x256.size (inb_mid b h)) (fun _ => rfl)
/-- The operand's first 259 rows. -/
def srcHead : Memref sig .tc .hbm S259x8x256 .f32 :=
  hbM.slice (Rect.unit (s := S2048x8x256) ![0, 0, 0] S259x8x256.size inb_S2048x8x256_S259x8x256_0_0_0) (fun _ => rfl)
/-- The operand's last 259 rows. -/
def srcTail : Memref sig .tc .hbm S259x8x256 .f32 :=
  hbM.slice (Rect.unit (s := S2048x8x256) ![1789, 0, 0] S259x8x256.size inb_S2048x8x256_S259x8x256_1789_0_0) (fun _ => rfl)

/-- Cell `s` of the kernel's own semaphores, and its place in the pool. -/
def cellA (s : Fin 2) : DmaSems sig S_ := (cc0_scratch1.slice (Rect.unit (s := S2) ![s.val] S1.size (inb_cell s))).squeeze S_ squeezes_S1_S_
abbrev cellR (s : Fin 2) : SemLoc sig := SemLoc.dma (cellA s).sem
theorem cellR_0 : cellR 0 = SemLoc.dma 2 := by decide
theorem cellR_1 : cellR 1 = SemLoc.dma 3 := by decide

/-- The slot block `n` goes to. -/
abbrev sl (n : ℕ) : Fin 2 := Ring.sl 2 n

/-! ## The branch conditions over the grid -/

/-- The condition of the body's first conditional, spelt as the body spells it. -/
abbrev cond1 (i : grid0.Coords) : Prop := (Scalar.cmpi .ne (Scalar.extui (Scalar.cmpi .eq (BitVec.ofNat 32 (i 0).val) 0#32)) 0#32) = 1#1
theorem hcond1 : ∀ t : Fin grid0.N, cond1 (grid0.coords t) ↔ t.val = 0 := by decide +kernel
theorem hcond2 : ∀ t : Fin grid0.N, k0_cond2 (grid0.coords t) = 1#1 ↔ t.val ≤ 6 := by decide +kernel
theorem hcond3 : ∀ t : Fin grid0.N, ¬k0_cond3 (grid0.coords t) = 1#1 := by decide +kernel
theorem hcond4 : ∀ t : Fin grid0.N, k0_cond4 (grid0.coords t) = 1#1 ↔ t.val ≤ 5 := by decide +kernel
theorem hcond5 : ∀ t : Fin grid0.N, k0_cond5 (grid0.coords t) = 1#1 ↔ t.val = 6 := by decide +kernel
theorem hcond6 : ∀ t : Fin grid0.N, k0_cond6 (grid0.coords t) = 1#1 ↔ t.val = 0 := by decide +kernel
theorem hcond7 : ∀ t : Fin grid0.N, k0_cond7 (grid0.coords t) = 1#1 ↔ 1 ≤ t.val ∧ t.val ≤ 6 := by decide +kernel
theorem hcond8 : ∀ t : Fin grid0.N, k0_cond8 (grid0.coords t) = 1#1 ↔ t.val = 7 := by decide +kernel
theorem hcond9 : ∀ t : Fin grid0.N, k0_cond9 (grid0.coords t) = 1#1 ↔ t.val = 0 := by decide +kernel
theorem hcond10 : ∀ t : Fin grid0.N, k0_cond10 (grid0.coords t) = 1#1 ↔ t.val = 7 := by decide +kernel

/-! ## The offsets in closed form, and the body's operands under their names -/

section Canon
omit [FloatOps F]

/-- Offset vectors that name the same cell name the same semaphore. -/
theorem cell_congr {off : Fin 1 → ℕ} (s : Fin 2) (h : off = ![s.val]) (hb : ∀ a, off a + S1.size a ≤ S2.size a) :
    (cc0_scratch1.slice (Rect.unit (s := S2) off S1.size hb)).squeeze S_ squeezes_S1_S_ = cellA s := by
  subst h; rfl
/-- Offset vectors of a whole slot name that slot. -/
theorem rslot_congr {off : Fin 4 → ℕ} (s : Fin 2) (h : off = ![s.val, 0, 0, 0]) (hb : ∀ a, off a + S1x262x8x256.size a ≤ S2x262x8x256.size a) :
    (scM.slice (Rect.unit (s := S2x262x8x256) off S1x262x8x256.size hb) (fun _ => rfl)).squeeze S262x8x256 squeezes_S1x262x8x256_S262x8x256 = rslot s := by
  subst h; rfl
/-- Offset vectors of a slot from row 3 name that part of it. -/
theorem headM_congr {off : Fin 4 → ℕ} (s : Fin 2) (h : off = ![s.val, 3, 0, 0]) (hb : ∀ a, off a + S1x259x8x256.size a ≤ S2x262x8x256.size a) :
    (scM.slice (Rect.unit (s := S2x262x8x256) off S1x259x8x256.size hb) (fun _ => rfl)).squeeze S259x8x256 squeezes_S1x259x8x256_S259x8x256 = headM s := by
  subst h; rfl
/-- Offset vectors of a slot's first 259 rows name that part of it. -/
theorem tailM_congr {off : Fin 4 → ℕ} (s : Fin 2) (h : off = ![s.val, 0, 0, 0]) (hb : ∀ a, off a + S1x259x8x256.size a ≤ S2x262x8x256.size a) :
    (scM.slice (Rect.unit (s := S2x262x8x256) off S1x259x8x256.size hb) (fun _ => rfl)).squeeze S259x8x256 squeezes_S1x259x8x256_S259x8x256 = tailM s := by
  subst h; rfl
/-- Offset vectors of a middle block of the operand name that block. -/
theorem srcMid_congr {off : Fin 3 → ℕ} (b : ℕ) (hb6 : b ≤ 6) (h : off = ![256 * b - 3, 0, 0]) (hb : ∀ a, off a + S262x8x256.size a ≤ S2048x8x256.size a) :
    hbM.slice (Rect.unit (s := S2048x8x256) off S262x8x256.size hb) (fun _ => rfl) = srcMid b hb6 := by
  subst h; rfl

set_option synthInstance.maxSize 4096
theorem coff3 : ∀ t : Fin grid0.N, k0_off3 (grid0.coords t) = ![(sl (t.val + 1)).val] := by decide +kernel
theorem coff4 : ∀ t : Fin grid0.N, k0_off4 (grid0.coords t) = ![(sl (t.val + 1)).val, 0, 0, 0] := by decide +kernel
theorem coff5 : ∀ t : Fin grid0.N, t.val ≤ 5 → k0_off5 (grid0.coords t) = ![256 * (t.val + 1) - 3, 0, 0] := by decide +kernel
theorem coff6 : ∀ t : Fin grid0.N, k0_off6 (grid0.coords t) = ![(sl (t.val + 1)).val] := by decide +kernel
theorem coff7 : ∀ t : Fin grid0.N, k0_off7 (grid0.coords t) = ![(sl (t.val + 1)).val, 0, 0, 0] := by decide +kernel
theorem coff8 : ∀ t : Fin grid0.N, k0_off8 (grid0.coords t) = ![(sl t.val).val] := by decide +kernel
theorem coff9 : ∀ t : Fin grid0.N, k0_off9 (grid0.coords t) = ![(sl t.val).val, 3, 0, 0] := by decide +kernel
theorem coff10 : ∀ t : Fin grid0.N, k0_off10 (grid0.coords t) = ![(sl t.val).val] := by decide +kernel
theorem coff11 : ∀ t : Fin grid0.N, k0_off11 (grid0.coords t) = ![(sl t.val).val, 0, 0, 0] := by decide +kernel
theorem coff12 : ∀ t : Fin grid0.N, 1 ≤ t.val ∧ t.val ≤ 6 → k0_off12 (grid0.coords t) = ![256 * t.val - 3, 0, 0] := by decide +kernel
theorem coff13 : ∀ t : Fin grid0.N, k0_off13 (grid0.coords t) = ![(sl t.val).val] := by decide +kernel
theorem coff14 : ∀ t : Fin grid0.N, k0_off14 (grid0.coords t) = ![(sl t.val).val, 0, 0, 0] := by decide +kernel
theorem coff15 : ∀ t : Fin grid0.N, k0_off15 (grid0.coords t) = ![(sl t.val).val, 3, 0, 0] := by decide +kernel
theorem coff16 : ∀ t : Fin grid0.N, k0_off16 (grid0.coords t) = ![(sl t.val).val, 0, 0, 0] := by decide +kernel
theorem coff17 : ∀ t : Fin grid0.N, k0_off17 (grid0.coords t) = ![(sl t.val).val, 1, 0, 0] := by decide +kernel
theorem coff18 : ∀ t : Fin grid0.N, k0_off18 (grid0.coords t) = ![(sl t.val).val, 2, 0, 0] := by decide +kernel
theorem coff19 : ∀ t : Fin grid0.N, k0_off19 (grid0.coords t) = ![(sl t.val).val, 258, 0, 0] := by decide +kernel
theorem coff20 : ∀ t : Fin grid0.N, k0_off20 (grid0.coords t) = ![(sl t.val).val, 259, 0, 0] := by decide +kernel
theorem coff21 : ∀ t : Fin grid0.N, k0_off21 (grid0.coords t) = ![(sl t.val).val, 260, 0, 0] := by decide +kernel
theorem coff22 : ∀ t : Fin grid0.N, k0_off22 (grid0.coords t) = ![(sl t.val).val, 261, 0, 0] := by decide +kernel
theorem coff23 : ∀ t : Fin grid0.N, k0_off23 (grid0.coords t) = ![(sl t.val).val, 0, 0, 0] := by decide +kernel
theorem coff24 : ∀ t : Fin grid0.N, k0_off24 (grid0.coords t) = ![(sl t.val).val, 0, 0, 128] := by decide +kernel

instance (priority := high) closed15 (t : Fin grid0.N) : ClosedOff (k0_off15 (grid0.coords t)) := ⟨_, coff15 t⟩
instance (priority := high) closed16 (t : Fin grid0.N) : ClosedOff (k0_off16 (grid0.coords t)) := ⟨_, coff16 t⟩
instance (priority := high) closed17 (t : Fin grid0.N) : ClosedOff (k0_off17 (grid0.coords t)) := ⟨_, coff17 t⟩
instance (priority := high) closed18 (t : Fin grid0.N) : ClosedOff (k0_off18 (grid0.coords t)) := ⟨_, coff18 t⟩
instance (priority := high) closed19 (t : Fin grid0.N) : ClosedOff (k0_off19 (grid0.coords t)) := ⟨_, coff19 t⟩
instance (priority := high) closed20 (t : Fin grid0.N) : ClosedOff (k0_off20 (grid0.coords t)) := ⟨_, coff20 t⟩
instance (priority := high) closed21 (t : Fin grid0.N) : ClosedOff (k0_off21 (grid0.coords t)) := ⟨_, coff21 t⟩
instance (priority := high) closed22 (t : Fin grid0.N) : ClosedOff (k0_off22 (grid0.coords t)) := ⟨_, coff22 t⟩
instance (priority := high) closed23 (t : Fin grid0.N) : ClosedOff (k0_off23 (grid0.coords t)) := ⟨_, coff23 t⟩
instance (priority := high) closed24 (t : Fin grid0.N) : ClosedOff (k0_off24 (grid0.coords t)) := ⟨_, coff24 t⟩

@[sl_canon] theorem canon3 (t : Fin grid0.N) (h2 : k0_cond2 (grid0.coords t) = 1#1) (h4 : k0_cond4 (grid0.coords t) = 1#1) :
    (cc0_scratch1.slice (Rect.unit (s := S2) (k0_off3 (grid0.coords t)) S1.size (k0_off3_inb (grid0.coords t) h2 h4))).squeeze S_ squeezes_S1_S_ = cellA (sl (t.val + 1)) :=
  cell_congr _ (coff3 t) _
@[sl_canon] theorem canon4 (t : Fin grid0.N) (h2 : k0_cond2 (grid0.coords t) = 1#1) (h4 : k0_cond4 (grid0.coords t) = 1#1) :
    (scM.slice (Rect.unit (s := S2x262x8x256) (k0_off4 (grid0.coords t)) S1x262x8x256.size (k0_off4_inb (grid0.coords t) h2 h4)) (fun _ => rfl)).squeeze S262x8x256 squeezes_S1x262x8x256_S262x8x256 = rslot (sl (t.val + 1)) :=
  rslot_congr _ (coff4 t) _
@[sl_canon] theorem canon5 (t : Fin grid0.N) (h2 : k0_cond2 (grid0.coords t) = 1#1) (h4 : k0_cond4 (grid0.coords t) = 1#1) :
    hbM.slice (Rect.unit (s := S2048x8x256) (k0_off5 (grid0.coords t)) S262x8x256.size (k0_off5_inb (grid0.coords t) h2 h4)) (fun _ => rfl)
      = srcMid (t.val + 1) (Nat.succ_le_succ ((hcond4 t).mp h4)) :=
  srcMid_congr _ _ (coff5 t ((hcond4 t).mp h4)) _
@[sl_canon] theorem canon6 (t : Fin grid0.N) (h2 : k0_cond2 (grid0.coords t) = 1#1) (h5 : k0_cond5 (grid0.coords t) = 1#1) :
    (cc0_scratch1.slice (Rect.unit (s := S2) (k0_off6 (grid0.coords t)) S1.size (k0_off6_inb (grid0.coords t) h2 h5))).squeeze S_ squeezes_S1_S_ = cellA (sl (t.val + 1)) :=
  cell_congr _ (coff6 t) _
@[sl_canon] theorem canon7 (t : Fin grid0.N) (h2 : k0_cond2 (grid0.coords t) = 1#1) (h5 : k0_cond5 (grid0.coords t) = 1#1) :
    (scM.slice (Rect.unit (s := S2x262x8x256) (k0_off7 (grid0.coords t)) S1x259x8x256.size (k0_off7_inb (grid0.coords t) h2 h5)) (fun _ => rfl)).squeeze S259x8x256 squeezes_S1x259x8x256_S259x8x256 = tailM (sl (t.val + 1)) :=
  tailM_congr _ (coff7 t) _
@[sl_canon] theorem canon8 (t : Fin grid0.N) (h6 : k0_cond6 (grid0.coords t) = 1#1) :
    (cc0_scratch1.slice (Rect.unit (s := S2) (k0_off8 (grid0.coords t)) S1.size (k0_off8_inb (grid0.coords t) h6))).squeeze S_ squeezes_S1_S_ = cellA (sl t.val) :=
  cell_congr _ (coff8 t) _
@[sl_canon] theorem canon9 (t : Fin grid0.N) (h6 : k0_cond6 (grid0.coords t) = 1#1) :
    (scM.slice (Rect.unit (s := S2x262x8x256) (k0_off9 (grid0.coords t)) S1x259x8x256.size (k0_off9_inb (grid0.coords t) h6)) (fun _ => rfl)).squeeze S259x8x256 squeezes_S1x259x8x256_S259x8x256 = headM (sl t.val) :=
  headM_congr _ (coff9 t) _
@[sl_canon] theorem canon10 (t : Fin grid0.N) (h7 : k0_cond7 (grid0.coords t) = 1#1) :
    (cc0_scratch1.slice (Rect.unit (s := S2) (k0_off10 (grid0.coords t)) S1.size (k0_off10_inb (grid0.coords t) h7))).squeeze S_ squeezes_S1_S_ = cellA (sl t.val) :=
  cell_congr _ (coff10 t) _
@[sl_canon] theorem canon11 (t : Fin grid0.N) (h7 : k0_cond7 (grid0.coords t) = 1#1) :
    (scM.slice (Rect.unit (s := S2x262x8x256) (k0_off11 (grid0.coords t)) S1x262x8x256.size (k0_off11_inb (grid0.coords t) h7)) (fun _ => rfl)).squeeze S262x8x256 squeezes_S1x262x8x256_S262x8x256 = rslot (sl t.val) :=
  rslot_congr _ (coff11 t) _
@[sl_canon] theorem canon12 (t : Fin grid0.N) (h7 : k0_cond7 (grid0.coords t) = 1#1) :
    hbM.slice (Rect.unit (s := S2048x8x256) (k0_off12 (grid0.coords t)) S262x8x256.size (k0_off12_inb (grid0.coords t) h7)) (fun _ => rfl)
      = srcMid t.val ((hcond7 t).mp h7).2 :=
  srcMid_congr _ _ (coff12 t ((hcond7 t).mp h7)) _
@[sl_canon] theorem canon13 (t : Fin grid0.N) (h8 : k0_cond8 (grid0.coords t) = 1#1) :
    (cc0_scratch1.slice (Rect.unit (s := S2) (k0_off13 (grid0.coords t)) S1.size (k0_off13_inb (grid0.coords t) h8))).squeeze S_ squeezes_S1_S_ = cellA (sl t.val) :=
  cell_congr _ (coff13 t) _
@[sl_canon] theorem canon14 (t : Fin grid0.N) (h8 : k0_cond8 (grid0.coords t) = 1#1) :
    (scM.slice (Rect.unit (s := S2x262x8x256) (k0_off14 (grid0.coords t)) S1x259x8x256.size (k0_off14_inb (grid0.coords t) h8)) (fun _ => rfl)).squeeze S259x8x256 squeezes_S1x259x8x256_S259x8x256 = tailM (sl t.val) :=
  tailM_congr _ (coff14 t) _
@[sl_canon] theorem canonHead :
    hbM.slice (Rect.unit (s := S2048x8x256) ![0, 0, 0] S259x8x256.size inb_S2048x8x256_S259x8x256_0_0_0) (fun _ => rfl) = srcHead := rfl
@[sl_canon] theorem canonTail :
    hbM.slice (Rect.unit (s := S2048x8x256) ![1789, 0, 0] S259x8x256.size inb_S2048x8x256_S259x8x256_1789_0_0) (fun _ => rfl) = srcTail := rfl
/-- At the first point the literal offsets are slot 0's. -/
theorem canonFirst (t : Fin grid0.N) (h : t.val = 0) :
    (scM.slice (Rect.unit (s := S2x262x8x256) ![0, 3, 0, 0] S1x259x8x256.size inb_S2x262x8x256_S1x259x8x256_0_3_0_0) (fun _ => rfl)).squeeze S259x8x256 squeezes_S1x259x8x256_S259x8x256 = headM (sl t.val) :=
  headM_congr _ (by rw [h]; rfl) _
theorem canonFirstCell (t : Fin grid0.N) (h : t.val = 0) :
    (cc0_scratch1.slice (Rect.unit (s := S2) ![0] S1.size inb_S2_S1_0)).squeeze S_ squeezes_S1_S_ = cellA (sl t.val) :=
  cell_congr _ (by rw [h]; rfl) _
end Canon

end Cert.KernelIdeal.Hand

end
-- ==== Proof.Id.State.lean ====
/- What the ring's slots hold: the block a transfer lands, the rows copied at the two ends, a slot put together from its
   parts; and the state of the ring between two grid points. -/
module

public import proofs.«01_k».proof.Proof.Id.Ring
public import Idealize.ShloMosaic.Lib.ValueLayout

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## Contents -/

/-- The operand's row that row `r` of block `b`'s slot shows: `256 b + r - 3`, held to the ends of the operand. -/
def row (b r : ℕ) : Fin 2048 := ⟨min (256 * b + r - 3) 2047, by omega⟩

variable (c : Dev nD) (W : BufOf (F := F) c hbM)

/-- The scratch with block `b` of the operand in every slot: row `r` shows the operand's row `row b r`. -/
def blkC (b : ℕ) : BufOf (F := F) c scM := fun (j : S2x262x8x256.Idx) =>
  (W : S2048x8x256.Idx → F .f32) (ix3 (row b (j 1).val) (j 2) (j 3))

/-- Contents that a memref reads alike are held alike. -/
theorem held_congr {sp : Space} {S : Shape} {e : EltTy} (M : Memref sig .tc sp S e) (f g : BufOf (F := F) c M)
    (h : M.view.read (Elt F) f = M.view.read (Elt F) g) : held c M f = held c M g := by
  refine pointsTo_congr fun i hi => ?_
  obtain ⟨x, -, rfl⟩ := Finset.mem_map.mp hi
  have := congrFun h x
  rw [View.read_apply, View.read_apply] at this
  exact cast_inj _ |>.mp this

/-- A whole-memref write of a payload that `g` reads as is `g`. -/
theorem held_write {sp : Space} {n0 n1 n2 : ℕ} (M : Memref sig .tc sp ⟨3, ![n0, n1, n2]⟩ .f32) (f g : BufOf (F := F) c M)
    (p : (⟨3, ![n0, n1, n2]⟩ : Shape).Idx → F .f32) (h : ∀ x y z, p (ix3 x y z) = M.view.read (Elt F) g (ix3 x y z)) :
    held c M (M.view.writes (Elt F) f [⟨Rect.whole ⟨3, ![n0, n1, n2]⟩, p⟩]) = held c M g := by
  refine held_congr c _ _ _ ((View.read_writes_whole _ _ _).trans (funext fun y => ?_))
  rw [eq_ix3 y]; exact h _ _ _

/-- Where slot `s`'s elements lie in the scratch, -/
theorem emb_rslot (s : Fin 2) (x : Fin 262) (y : Fin 8) (z : Fin 256) :
    (rslot s).view.emb (ix3 x y z) = (ix4 s x y z : S2x262x8x256.Idx) := by
  show (Rect.unit (s := S2x262x8x256) ![s.val, 0, 0, 0] S1x262x8x256.size (inb_slot s)).emb (Shape.reshapeEquiv _ (ix3 x y z)) = _
  rw [reshapeEquiv_ix3_1abc]
  funext a; apply Fin.ext; fin_cases a <;> simp [Rect.emb, Rect.unit]
/-- the elements of its part from row 3, -/
theorem emb_headM (s : Fin 2) (x : Fin 259) (y : Fin 8) (z : Fin 256) :
    (headM s).view.emb (ix3 x y z) = (ix4 s ⟨3 + x.val, by omega⟩ y z : S2x262x8x256.Idx) := by
  show (Rect.unit (s := S2x262x8x256) ![s.val, 3, 0, 0] S1x259x8x256.size (inb_part s 3 (by decide))).emb (Shape.reshapeEquiv _ (ix3 x y z)) = _
  rw [reshapeEquiv_ix3_1abc]
  funext a; apply Fin.ext; fin_cases a <;> simp [Rect.emb, Rect.unit]
/-- and those of its first 259 rows. -/
theorem emb_tailM (s : Fin 2) (x : Fin 259) (y : Fin 8) (z : Fin 256) :
    (tailM s).view.emb (ix3 x y z) = (ix4 s ⟨x.val, by omega⟩ y z : S2x262x8x256.Idx) := by
  show (Rect.unit (s := S2x262x8x256) ![s.val, 0, 0, 0] S1x259x8x256.size (inb_part s 0 (by decide))).emb (Shape.reshapeEquiv _ (ix3 x y z)) = _
  rw [reshapeEquiv_ix3_1abc]
  funext a; apply Fin.ext; fin_cases a <;> simp [Rect.emb, Rect.unit]

/-- Slot `s`'s contents once a middle block has landed in it over `f`; -/
abbrev landMid (s : Fin 2) (b : ℕ) (h : b ≤ 6) (f : BufOf (F := F) c (rslot s)) : BufOf (F := F) c (rslot s) :=
  (rslot s).view.writes (Elt F) f [⟨Rect.whole S262x8x256, ReadAs.same.apply ((srcMid b h).view.read (Elt F) W)⟩]
/-- the first block, from row 3; -/
abbrev landHead (s : Fin 2) (f : BufOf (F := F) c (headM s)) : BufOf (F := F) c (headM s) :=
  (headM s).view.writes (Elt F) f [⟨Rect.whole S259x8x256, ReadAs.same.apply (srcHead.view.read (Elt F) W)⟩]
/-- the last block, in the first 259 rows. -/
abbrev landTail (s : Fin 2) (f : BufOf (F := F) c (tailM s)) : BufOf (F := F) c (tailM s) :=
  (tailM s).view.writes (Elt F) f [⟨Rect.whole S259x8x256, ReadAs.same.apply (srcTail.view.read (Elt F) W)⟩]

/-- A middle block landed is the block in place; -/
theorem landMid_eq (s : Fin 2) (b : ℕ) (h1 : 1 ≤ b) (h : b ≤ 6) (f : BufOf (F := F) c (rslot s)) :
    held c (rslot s) (landMid c W s b h f) = held c (rslot s) (blkC c W b) := by
  refine held_write c _ _ _ _ fun x y z => ?_
  show W ((srcMid b h).view.emb (ix3 x y z)) = blkC c W b ((rslot s).view.emb (ix3 x y z))
  rw [emb_rslot]
  refine congrArg W (funext fun a => Fin.ext ?_)
  have h0 := x.isLt
  fin_cases a
  · show 256 * b - 3 + 1 * x.val = min (256 * b + x.val - 3) 2047
    omega
  · show 0 + 1 * y.val = y.val
    omega
  · show 0 + 1 * z.val = z.val
    omega
/-- the first block landed is block 0 in place from row 3; -/
theorem landHead_eq (s : Fin 2) (f : BufOf (F := F) c (headM s)) :
    held c (headM s) (landHead c W s f) = held c (headM s) (blkC c W 0) := by
  refine held_write c _ _ _ _ fun x y z => ?_
  show W (srcHead.view.emb (ix3 x y z)) = blkC c W 0 ((headM s).view.emb (ix3 x y z))
  rw [emb_headM]
  refine congrArg W (funext fun a => Fin.ext ?_)
  have h0 := x.isLt
  fin_cases a
  · show 0 + 1 * x.val = min (256 * 0 + (3 + x.val) - 3) 2047
    omega
  · show 0 + 1 * y.val = y.val
    omega
  · show 0 + 1 * z.val = z.val
    omega
/-- the last block landed is block 7 in place in the first 259 rows. -/
theorem landTail_eq (s : Fin 2) (f : BufOf (F := F) c (tailM s)) :
    held c (tailM s) (landTail c W s f) = held c (tailM s) (blkC c W 7) := by
  refine held_write c _ _ _ _ fun x y z => ?_
  show W (srcTail.view.emb (ix3 x y z)) = blkC c W 7 ((tailM s).view.emb (ix3 x y z))
  rw [emb_tailM]
  refine congrArg W (funext fun a => Fin.ext ?_)
  have h0 := x.isLt
  fin_cases a
  · show 1789 + 1 * x.val = min (256 * 7 + x.val - 3) 2047
    omega
  · show 0 + 1 * y.val = y.val
    omega
  · show 0 + 1 * z.val = z.val
    omega
/-- The elements of the `n` rows from row `o` of slot `s`. -/
abbrev rowsSet (s : Fin 2) (o n : ℕ) : Finset S2x262x8x256.Idx :=
  Finset.univ.filter fun j => (j 0).val = s.val ∧ o ≤ (j 1).val ∧ (j 1).val < o + n

/-- A rectangle of `n` whole rows from row `o` of slot `s` is those elements. -/
theorem unit_set (s : Fin 2) (o n : ℕ) (h : ∀ a, (![s.val, o, 0, 0] : Fin 4 → ℕ) a + (![1, n, 8, 256] : Fin 4 → ℕ) a ≤ S2x262x8x256.size a) :
    (Rect.unit (s := S2x262x8x256) ![s.val, o, 0, 0] ![1, n, 8, 256] h).set = rowsSet s o n := by
  ext j
  rw [Rect.mem_set_unit, Finset.mem_filter]
  have h2 : (j 2).val < 8 := (j 2).isLt
  have h3 : (j 3).val < 256 := (j 3).isLt
  constructor
  · intro hj
    have h0 := hj 0; have h1 := hj 1
    simp at h0 h1
    refine ⟨Finset.mem_univ _, ?_, ?_, ?_⟩ <;> omega
  · rintro ⟨-, h0, h1, h1'⟩ a
    fin_cases a <;> simp <;> omega

theorem set_rslot (s : Fin 2) : (rslot s).view.set = rowsSet s 0 262 := by
  simp only [rslot, Memref.view_squeeze, View.set_reshape]
  exact (View.set_slice_whole _ _).trans (unit_set s 0 262 (inb_slot s))
theorem set_headM (s : Fin 2) : (headM s).view.set = rowsSet s 3 259 := by
  simp only [headM, Memref.view_squeeze, View.set_reshape]
  exact (View.set_slice_whole _ _).trans (unit_set s 3 259 (inb_part s 3 (by decide)))
theorem set_tailM (s : Fin 2) : (tailM s).view.set = rowsSet s 0 259 := by
  simp only [tailM, Memref.view_squeeze, View.set_reshape]
  exact (View.set_slice_whole _ _).trans (unit_set s 0 259 (inb_part s 0 (by decide)))
theorem set_lowM (s : Fin 2) : (lowM s).view.set = rowsSet s 0 3 :=
  (View.set_slice_whole _ _).trans (unit_set s 0 3 (inb_rows s 0 (by decide)))
theorem set_highM (s : Fin 2) : (highM s).view.set = rowsSet s 259 3 :=
  (View.set_slice_whole _ _).trans (unit_set s 259 3 (inb_rows s 259 (by decide)))

/-- Neighbouring runs of rows make one run. -/
theorem rows_union (s : Fin 2) (o n n' : ℕ) : rowsSet s o n ∪ rowsSet s (o + n) n' = rowsSet s o (n + n') := by
  ext j; simp only [Finset.mem_union, Finset.mem_filter, Finset.mem_univ, true_and]; omega
theorem rows_disjoint (s : Fin 2) (o n n' : ℕ) : Disjoint (rowsSet s o n) (rowsSet s (o + n) n') := by
  rw [Finset.disjoint_left]; intro j h h'
  simp only [Finset.mem_filter, Finset.mem_univ, true_and] at h h'; omega

/-- Two parts of a slot, neighbouring runs of rows, held at the same contents are the run of both. -/
theorem rows_join (s : Fin 2) (o n n' : ℕ) (f : BufOf (F := F) c scM) :
    (scM.view.loc (c : Thread nD τ) ↦[rowsSet s o (n + n')]{fullShare} f : sProp 𝕄)
      ⊣⊢ iprop((scM.view.loc (c : Thread nD τ) ↦[rowsSet s o n]{fullShare} f) ∗ scM.view.loc (c : Thread nD τ) ↦[rowsSet s (o + n) n']{fullShare} f) := by
  rw [← rows_union]; exact pointsTo_union (rows_disjoint s o n n')

theorem held_rslot (s : Fin 2) (f : BufOf (F := F) c scM) :
    held c (rslot s) f = (scM.view.loc (c : Thread nD τ) ↦[rowsSet s 0 262]{fullShare} f : sProp 𝕄) := by
  unfold held; rw [set_rslot]; rfl
theorem held_headM (s : Fin 2) (f : BufOf (F := F) c scM) :
    held c (headM s) f = (scM.view.loc (c : Thread nD τ) ↦[rowsSet s 3 259]{fullShare} f : sProp 𝕄) := by
  unfold held; rw [set_headM]; rfl
theorem held_tailM (s : Fin 2) (f : BufOf (F := F) c scM) :
    held c (tailM s) f = (scM.view.loc (c : Thread nD τ) ↦[rowsSet s 0 259]{fullShare} f : sProp 𝕄) := by
  unfold held; rw [set_tailM]; rfl
theorem held_lowM (s : Fin 2) (f : BufOf (F := F) c scM) :
    held c (lowM s) f = (scM.view.loc (c : Thread nD τ) ↦[rowsSet s 0 3]{fullShare} f : sProp 𝕄) := by
  unfold held; rw [set_lowM]; rfl
theorem held_highM (s : Fin 2) (f : BufOf (F := F) c scM) :
    held c (highM s) f = (scM.view.loc (c : Thread nD τ) ↦[rowsSet s 259 3]{fullShare} f : sProp 𝕄) := by
  unfold held; rw [set_highM]; rfl

/-- A slot is its first three rows and the rest, -/
theorem slot_head (s : Fin 2) (f : BufOf (F := F) c scM) :
    held c (rslot s) f ⊣⊢ iprop(held c (lowM s) f ∗ held c (headM s) f) := by
  rw [held_rslot, held_lowM, held_headM]; exact rows_join c s 0 3 259 f
/-- and its last three rows and the rest. -/
theorem slot_tail (s : Fin 2) (f : BufOf (F := F) c scM) :
    held c (rslot s) f ⊣⊢ iprop(held c (tailM s) f ∗ held c (highM s) f) := by
  rw [held_rslot, held_tailM, held_highM]; exact rows_join c s 0 259 3 f

/-! ## Rows copied inside a slot -/

/-- Where the elements of row `o` of slot `s` lie in the scratch. -/
theorem emb_row (s : Fin 2) (o : Fin 262) {off : Fin 4 → ℕ} (h : off = ![s.val, o.val, 0, 0])
    (hb : ∀ a, off a + S1x1x8x256.size a ≤ S2x262x8x256.size a) (y : Fin 8) (z : Fin 256) :
    (Rect.unit (s := S2x262x8x256) off S1x1x8x256.size hb).emb (ix4 0 0 y z) = (ix4 s o y z : S2x262x8x256.Idx) := by
  subst h; funext a; apply Fin.ext; fin_cases a <;> simp [Rect.emb, Rect.unit]

/-- Row `o` of slot `s` after a store of `d` to it; everything else stays. -/
theorem row_write (s : Fin 2) (o : Fin 262) {off : Fin 4 → ℕ} (h : off = ![s.val, o.val, 0, 0])
    (hb : ∀ a, off a + S1x1x8x256.size a ≤ S2x262x8x256.size a) (f : BufOf (F := F) c scM) (d : S1x1x8x256.Idx → F .f32)
    (x : Fin 262) (y : Fin 8) (z : Fin 256) :
    (View.write (Elt F) (scM.access (Rect.unit (s := S2x262x8x256) off S1x1x8x256.size hb)) f d Finset.univ : S2x262x8x256.Idx → F .f32) (ix4 s x y z)
      = if x = o then d (ix4 0 0 y z) else (f : S2x262x8x256.Idx → F .f32) (ix4 s x y z) := by
  by_cases hj : x = o
  · rw [if_pos hj, hj]
    have h1 := View.write_emb_of_mem (Val := Elt F) (v := scM.access (Rect.unit (s := S2x262x8x256) off S1x1x8x256.size hb)) f d
      (Finset.mem_univ (ix4 0 0 y z))
    exact (congrArg (View.write (Elt F) (scM.access (Rect.unit (s := S2x262x8x256) off S1x1x8x256.size hb)) f d Finset.univ)
      (emb_row s o h hb y z).symm).trans h1
  · rw [if_neg hj]
    have hn : (ix4 s x y z : S2x262x8x256.Idx) ∉ (scM.access (Rect.unit (s := S2x262x8x256) off S1x1x8x256.size hb)).setOn Finset.univ →
        (View.write (Elt F) (scM.access (Rect.unit (s := S2x262x8x256) off S1x1x8x256.size hb)) f d Finset.univ : S2x262x8x256.Idx → F .f32) (ix4 s x y z)
          = (f : S2x262x8x256.Idx → F .f32) (ix4 s x y z) := fun h =>
      View.write_of_not_mem (v := scM.access (Rect.unit (s := S2x262x8x256) off S1x1x8x256.size hb)) (Val := Elt F) f d Finset.univ h
    refine hn fun hm => hj ?_
    have hm' : (ix4 s x y z : S2x262x8x256.Idx) ∈ (Rect.unit (s := S2x262x8x256) off S1x1x8x256.size hb).set := by
      have e : (scM.access (Rect.unit (s := S2x262x8x256) off S1x1x8x256.size hb)).setOn Finset.univ = (Rect.unit (s := S2x262x8x256) off S1x1x8x256.size hb).set :=
        View.set_slice_whole _ _
      exact e ▸ hm
    subst h
    rw [unit_set s o.val 1 hb, Finset.mem_filter] at hm'
    obtain ⟨-, -, h1, h2⟩ := hm'
    exact Fin.ext (Nat.le_antisymm (Nat.lt_succ_iff.mp h2) h1)

/-- A row stored as the kernel stores it — reshaped there and back — is the row. -/
theorem row_pay (v : Vec F S1x1x8x256 .f32) : k0_pay2 v = v := by
  unfold k0_pay2; exact shapeCast_shapeCast (s := S1x1x8x256) (t := S1x8x256) v _ _
theorem row_pay5 (v : Vec F S1x1x8x256 .f32) : k0_pay5 v = v := row_pay v
theorem row_pay6 (v : Vec F S1x1x8x256 .f32) : k0_pay6 v = v := row_pay v
theorem row_pay7 (v : Vec F S1x1x8x256 .f32) : k0_pay7 v = v := row_pay v

/-- Row `p` of slot `s`, read. -/
theorem row_read (s : Fin 2) (p : Fin 262) {off : Fin 4 → ℕ} (h : off = ![s.val, p.val, 0, 0])
    (hb : ∀ a, off a + S1x1x8x256.size a ≤ S2x262x8x256.size a) (g : BufOf (F := F) c scM) (y : Fin 8) (z : Fin 256) :
    (View.readAt (Elt F) scM.view (Rect.unit (s := S2x262x8x256) off S1x1x8x256.size hb).toLoadRect g : S1x1x8x256.Idx → F .f32) (ix4 0 0 y z)
      = (g : S2x262x8x256.Idx → F .f32) (ix4 s p y z) := by
  show (g : S2x262x8x256.Idx → F .f32) ((Rect.unit (s := S2x262x8x256) off S1x1x8x256.size hb).emb (ix4 0 0 y z)) = _
  rw [emb_row s p h hb]

/-- Row `p` of what is read copied to the three rows from row `q`: there, each row is row `p`. -/
theorem copied (s : Fin 2) (p q0 q1 q2 : Fin 262) {op o0 o1 o2 : Fin 4 → ℕ}
    (eo : op = ![s.val, p.val, 0, 0]) (e0 : o0 = ![s.val, q0.val, 0, 0]) (e1 : o1 = ![s.val, q1.val, 0, 0]) (e2 : o2 = ![s.val, q2.val, 0, 0])
    (bp : ∀ a, op a + S1x1x8x256.size a ≤ S2x262x8x256.size a) (b0 : ∀ a, o0 a + S1x1x8x256.size a ≤ S2x262x8x256.size a)
    (b1 : ∀ a, o1 a + S1x1x8x256.size a ≤ S2x262x8x256.size a) (b2 : ∀ a, o2 a + S1x1x8x256.size a ≤ S2x262x8x256.size a)
    (f g : BufOf (F := F) c scM) (d0 d1 d2 : S1x1x8x256.Idx → F .f32)
    (h0 : d0 = View.readAt (Elt F) scM.view (Rect.unit (s := S2x262x8x256) op S1x1x8x256.size bp).toLoadRect g)
    (h1 : d1 = View.readAt (Elt F) scM.view (Rect.unit (s := S2x262x8x256) op S1x1x8x256.size bp).toLoadRect g)
    (h2 : d2 = View.readAt (Elt F) scM.view (Rect.unit (s := S2x262x8x256) op S1x1x8x256.size bp).toLoadRect g)
    (x : Fin 262) (y : Fin 8) (z : Fin 256) (hx : x = q0 ∨ x = q1 ∨ x = q2) :
    (View.write (Elt F) (scM.access (Rect.unit (s := S2x262x8x256) o2 S1x1x8x256.size b2))
      (View.write (Elt F) (scM.access (Rect.unit (s := S2x262x8x256) o1 S1x1x8x256.size b1))
        (View.write (Elt F) (scM.access (Rect.unit (s := S2x262x8x256) o0 S1x1x8x256.size b0)) f d0 Finset.univ) d1 Finset.univ) d2 Finset.univ
          : S2x262x8x256.Idx → F .f32) (ix4 s x y z)
      = (g : S2x262x8x256.Idx → F .f32) (ix4 s p y z) := by
  have hr := row_read c s p eo bp g y z
  rw [row_write c s q2 e2, row_write c s q1 e1, row_write c s q0 e0, h0, h1, h2, hr]
  by_cases c2 : x = q2
  · rw [if_pos c2]
  · rw [if_neg c2]
    by_cases c1 : x = q1
    · rw [if_pos c1]
    · rw [if_neg c1, if_pos (hx.resolve_right (not_or.mpr ⟨c1, c2⟩))]

/-- In place, the first block's three rows before its first are copies of that row; -/
theorem blk_low (s : Fin 2) (x : Fin 262) (hx : x.val < 3) (y : Fin 8) (z : Fin 256) :
    (blkC c W 0 : S2x262x8x256.Idx → F .f32) (ix4 s x y z) = (blkC c W 0 : S2x262x8x256.Idx → F .f32) (ix4 s 3 y z) := by
  refine congrArg W (funext fun a => Fin.ext ?_)
  fin_cases a
  · show min (256 * 0 + x.val - 3) 2047 = min (256 * 0 + 3 - 3) 2047
    omega
  · rfl
  · rfl
/-- the last block's three rows past its last are copies of that row. -/
theorem blk_high (s : Fin 2) (x : Fin 262) (hx : 259 ≤ x.val) (y : Fin 8) (z : Fin 256) :
    (blkC c W 7 : S2x262x8x256.Idx → F .f32) (ix4 s x y z) = (blkC c W 7 : S2x262x8x256.Idx → F .f32) (ix4 s 258 y z) := by
  refine congrArg W (funext fun a => Fin.ext ?_)
  fin_cases a
  · show min (256 * 7 + x.val - 3) 2047 = min (256 * 7 + 258 - 3) 2047
    omega
  · rfl
  · rfl

/-- Two contents that agree on `n` rows of slot `s` from row `o` are held alike there. -/
theorem rows_congr (s : Fin 2) (o n : ℕ) (f g : BufOf (F := F) c scM)
    (h : ∀ (x : Fin 262) (y : Fin 8) (z : Fin 256), o ≤ x.val → x.val < o + n →
      (f : S2x262x8x256.Idx → F .f32) (ix4 s x y z) = (g : S2x262x8x256.Idx → F .f32) (ix4 s x y z)) :
    (scM.view.loc (c : Thread nD τ) ↦[rowsSet s o n]{fullShare} f : sProp 𝕄) ⊢ scM.view.loc (c : Thread nD τ) ↦[rowsSet s o n]{fullShare} g := by
  refine .of_eq (pointsTo_congr fun (j : S2x262x8x256.Idx) hj => ?_)
  rw [Finset.mem_filter] at hj
  have e : j = (ix4 s (j 1) (j 2) (j 3) : S2x262x8x256.Idx) := by
    conv_lhs => rw [eq_ix4 j]
    rw [show (j 0 : Fin 2) = s from Fin.ext hj.2.1]
    rfl
  rw [e]; exact h _ _ _ hj.2.2.1 hj.2.2.2

/-- The first block landed from row 3 shows, at row 3, that block's row 3. -/
theorem landHead_at (s : Fin 2) (f : BufOf (F := F) c (headM s)) (y : Fin 8) (z : Fin 256) :
    (landHead c W s f : S2x262x8x256.Idx → F .f32) (ix4 s 3 y z) = (blkC c W 0 : S2x262x8x256.Idx → F .f32) (ix4 s 3 y z) := by
  have h := congrFun (View.read_writes_whole (headM s).view f (ReadAs.same.apply (srcHead.view.read (Elt F) W))) (ix3 0 y z)
  rw [View.read_apply, emb_headM] at h
  refine (cast_eq _ _).symm.trans (h.trans ?_)
  refine congrArg W (funext fun a => Fin.ext ?_)
  fin_cases a
  · rfl
  · show 0 + 1 * y.val = y.val
    omega
  · show 0 + 1 * z.val = z.val
    omega

/-- The three rows before the first block, copied from it once it has landed, are in place; -/
theorem held_low (s : Fin 2) {op o0 o1 o2 : Fin 4 → ℕ}
    (eo : op = ![s.val, 3, 0, 0]) (e0 : o0 = ![s.val, 0, 0, 0]) (e1 : o1 = ![s.val, 1, 0, 0]) (e2 : o2 = ![s.val, 2, 0, 0])
    (bp : ∀ a, op a + S1x1x8x256.size a ≤ S2x262x8x256.size a) (b0 : ∀ a, o0 a + S1x1x8x256.size a ≤ S2x262x8x256.size a)
    (b1 : ∀ a, o1 a + S1x1x8x256.size a ≤ S2x262x8x256.size a) (b2 : ∀ a, o2 a + S1x1x8x256.size a ≤ S2x262x8x256.size a)
    (f : BufOf (F := F) c scM) (f' : BufOf (F := F) c (headM s)) (d0 d1 d2 : S1x1x8x256.Idx → F .f32)
    (h0 : d0 = View.readAt (Elt F) scM.view (Rect.unit (s := S2x262x8x256) op S1x1x8x256.size bp).toLoadRect (landHead c W s f'))
    (h1 : d1 = View.readAt (Elt F) scM.view (Rect.unit (s := S2x262x8x256) op S1x1x8x256.size bp).toLoadRect (landHead c W s f'))
    (h2 : d2 = View.readAt (Elt F) scM.view (Rect.unit (s := S2x262x8x256) op S1x1x8x256.size bp).toLoadRect (landHead c W s f')) :
    held c (lowM s) (View.write (Elt F) (scM.access (Rect.unit (s := S2x262x8x256) o2 S1x1x8x256.size b2))
      (View.write (Elt F) (scM.access (Rect.unit (s := S2x262x8x256) o1 S1x1x8x256.size b1))
        (View.write (Elt F) (scM.access (Rect.unit (s := S2x262x8x256) o0 S1x1x8x256.size b0)) f d0 Finset.univ) d1 Finset.univ) d2 Finset.univ)
      ⊢ held c (lowM s) (blkC c W 0) := by
  rw [held_lowM, held_lowM]
  refine rows_congr c s 0 3 _ _ fun x y z _ hx => ?_
  rw [copied c s 3 0 1 2 eo e0 e1 e2 bp b0 b1 b2 f _ d0 d1 d2 h0 h1 h2 x y z (by simp only [Fin.ext_iff]; show x.val = 0 ∨ x.val = 1 ∨ x.val = 2; omega)]
  exact (landHead_at c W s f' _ _).trans (blk_low c W s x hx y z).symm
/-- the three rows past the last block, copied from it, are in place. -/
theorem held_high (s : Fin 2) {op o0 o1 o2 : Fin 4 → ℕ}
    (eo : op = ![s.val, 258, 0, 0]) (e0 : o0 = ![s.val, 259, 0, 0]) (e1 : o1 = ![s.val, 260, 0, 0]) (e2 : o2 = ![s.val, 261, 0, 0])
    (bp : ∀ a, op a + S1x1x8x256.size a ≤ S2x262x8x256.size a) (b0 : ∀ a, o0 a + S1x1x8x256.size a ≤ S2x262x8x256.size a)
    (b1 : ∀ a, o1 a + S1x1x8x256.size a ≤ S2x262x8x256.size a) (b2 : ∀ a, o2 a + S1x1x8x256.size a ≤ S2x262x8x256.size a)
    (f : BufOf (F := F) c scM) (d0 d1 d2 : S1x1x8x256.Idx → F .f32)
    (h0 : d0 = View.readAt (Elt F) scM.view (Rect.unit (s := S2x262x8x256) op S1x1x8x256.size bp).toLoadRect (blkC c W 7))
    (h1 : d1 = View.readAt (Elt F) scM.view (Rect.unit (s := S2x262x8x256) op S1x1x8x256.size bp).toLoadRect (blkC c W 7))
    (h2 : d2 = View.readAt (Elt F) scM.view (Rect.unit (s := S2x262x8x256) op S1x1x8x256.size bp).toLoadRect (blkC c W 7)) :
    held c (highM s) (View.write (Elt F) (scM.access (Rect.unit (s := S2x262x8x256) o2 S1x1x8x256.size b2))
      (View.write (Elt F) (scM.access (Rect.unit (s := S2x262x8x256) o1 S1x1x8x256.size b1))
        (View.write (Elt F) (scM.access (Rect.unit (s := S2x262x8x256) o0 S1x1x8x256.size b0)) f d0 Finset.univ) d1 Finset.univ) d2 Finset.univ)
      ⊢ held c (highM s) (blkC c W 7) := by
  rw [held_highM, held_highM]
  refine rows_congr c s 259 3 _ _ fun x y z hx _ => ?_
  have := x.isLt
  rw [copied c s 258 259 260 261 eo e0 e1 e2 bp b0 b1 b2 f _ d0 d1 d2 h0 h1 h2 x y z (by simp only [Fin.ext_iff]; show x.val = 259 ∨ x.val = 260 ∨ x.val = 261; omega)]
  exact (blk_high c W s x hx y z).symm

/-! ## The ring between two points -/

/-- The operand is lent by share, one read-share copy of it per slot: the left and the right half of the full share. -/
abbrev qs (s : Fin 2) : PosShare TreeShare := if s.val = 0 then fullShare.left else fullShare.right
/-- Cell `s` at zero. -/
abbrev cellP (s : Fin 2) : sProp 𝕄 := semVal ((c : Thread nD τ), cellR s) 0
/-- Slot `s`'s copy of the operand, whole; -/
abbrev wholeP (s : Fin 2) : sProp 𝕄 := ((c : Thread nD τ).loc main_arg0) ↦[Finset.univ]{qs s} W
/-- of that copy, the elements of a block; -/
abbrev srcP {S : Shape} (s : Fin 2) (M : Memref sig .tc .hbm S .f32) (f : BufOf (F := F) c M) : sProp 𝕄 :=
  M.view.loc (c : Thread nD τ) ↦[M.view.set]{qs s} f
/-- and the rest of it. -/
def restP (s : Fin 2) (I : Finset S2048x8x256.Idx) : sProp 𝕄 := ((c : Thread nD τ).loc main_arg0) ↦[Finset.univ \ I]{qs s} W

theorem split_mid (s : Fin 2) (b : ℕ) (h : b ≤ 6) : wholeP c W s ⊣⊢ iprop(srcP c s (srcMid b h) W ∗ restP c W s (srcMid b h).view.set) := by
  unfold restP; exact pointsTo_split_subset (Finset.subset_univ _)
theorem split_head (s : Fin 2) : wholeP c W s ⊣⊢ iprop(srcP c s srcHead W ∗ restP c W s srcHead.view.set) := by
  unfold restP; exact pointsTo_split_subset (Finset.subset_univ _)
theorem split_tail (s : Fin 2) : wholeP c W s ⊣⊢ iprop(srcP c s srcTail W ∗ restP c W s srcTail.view.set) := by
  unfold restP; exact pointsTo_split_subset (Finset.subset_univ _)

/-- Slot `s` free: its cell at zero, its rows at anything, its copy of the operand whole. -/
def freeP (s : Fin 2) : sProp 𝕄 := iprop(cellP c s ∗ (∃ f, held c (rslot s) f) ∗ wholeP c W s)
/-- Block `b`, one in the middle, on its way into slot `s`. -/
def midFlight (s : Fin 2) (b : ℕ) (h : b ≤ 6) : sProp 𝕄 :=
  iprop((∃ f, Transfers.Flight countersEmb (c : Thread nD τ) (cellR s) default ((rslot s).view.amount (cellR s))
      iprop(held c (rslot s) (landMid c W s b h f) ∗ srcP c s (srcMid b h) W)) ∗ restP c W s (srcMid b h).view.set)
/-- The last block on its way into slot `s`; the slot's last three rows, which the transfer leaves alone, at anything. -/
def tailFlight (s : Fin 2) : sProp 𝕄 :=
  iprop((∃ f, Transfers.Flight countersEmb (c : Thread nD τ) (cellR s) default ((tailM s).view.amount (cellR s))
      iprop(held c (tailM s) (landTail c W s f) ∗ srcP c s srcTail W)) ∗ restP c W s srcTail.view.set ∗ ∃ f, held c (highM s) f)
/-- Slot `s` with block `b` in place: its cell at zero, its copy of the operand whole. -/
def readyP (s : Fin 2) (b : ℕ) : sProp 𝕄 := iprop(cellP c s ∗ held c (rslot s) (blkC c W b) ∗ wholeP c W s)

/-- What is under way for block `n` at its point: nothing at the first point and past the last, else its transfer. -/
def nextP (n : ℕ) : sProp 𝕄 :=
  if h : 1 ≤ n ∧ n ≤ 6 then midFlight c W (sl n) n h.2 else if n = 7 then tailFlight c W (sl n) else freeP c W (sl n)
/-- The ring before point `n`: block `n` under way, the other slot free. -/
def ringAt (n : ℕ) : sProp 𝕄 := iprop(nextP c W n ∗ freeP c W (sl (n + 1)))

theorem nextP_mid (n : ℕ) (h1 : 1 ≤ n) (h : n ≤ 6) : nextP c W n = midFlight c W (sl n) n h := by
  unfold nextP; rw [dif_pos ⟨h1, h⟩]
theorem nextP_tail (n : ℕ) (h : n = 7) : nextP c W n = tailFlight c W (sl n) := by
  unfold nextP; rw [dif_neg (by omega), if_pos h]
theorem nextP_free (n : ℕ) (h : n = 0 ∨ n = 8) : nextP c W n = freeP c W (sl n) := by
  unfold nextP; rw [dif_neg (by omega), if_neg (by omega)]

/-- A ready slot is free to fill. -/
theorem ready_free (s : Fin 2) (b : ℕ) : readyP c W s b ⊢ freeP c W s := by
  unfold readyP freeP
  iintro ⟨H1, H2, H3⟩
  isplitl [H1]; · iexact H1
  isplitl [H2]; · iexists _; iexact H2
  iexact H3

end Cert.KernelIdeal.Hand

end
-- ==== Proof.Id.Start.lean ====
/- The first part of the body — the transfers started and awaited, the end rows copied — by the point's place in the
   grid: each ends with the point's block in place in its slot and the next block under way. -/
module

public import proofs.«01_k».proof.Proof.Id.State

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (W : BufOf (F := F) c hbM)

/-- A middle block landed in a slot is that block in place there; -/
theorem landed_mid (s : Fin 2) (b : ℕ) (h1 : 1 ≤ b) (h : b ≤ 6) (f : BufOf (F := F) c (rslot s)) :
    held c (rslot s) (landMid c W s b h f) ⊢ held c (rslot s) (blkC c W b) := by rw [landMid_eq c W s b h1]
/-- likewise the first block and the last block, in the part of the slot it fills. -/
theorem landed_head (s : Fin 2) (f : BufOf (F := F) c (headM s)) :
    held c (headM s) (landHead c W s f) ⊢ held c (headM s) (blkC c W 0) := by rw [landHead_eq c W s]
theorem landed_tail (s : Fin 2) (f : BufOf (F := F) c (tailM s)) :
    held c (tailM s) (landTail c W s f) ⊢ held c (tailM s) (blkC c W 7) := by rw [landTail_eq c W s]

/-- Slot `s` with the last block landed, its last three rows still at anything. -/
def lastP (s : Fin 2) : sProp 𝕄 :=
  iprop(cellP c s ∗ held c (tailM s) (blkC c W 7) ∗ (∃ f, held c (highM s) f) ∗ wholeP c W s)

set_option maxHeartbeats 1000000 in
/-- At a point in the middle of the grid the body starts the next middle block and waits for its own. -/
theorem start_mid (t : Fin grid0.N) (h1 : 1 ≤ t.val) (h5 : t.val ≤ 5) (arg2 : Memref sig .tc .vmem S256x8x1792 .f32) (harg2 : arg2.IsWhole)
    (Ws : Waits sig Unit) (K : (Σ' (_ : BitVec 32) (_ : BitVec 32), BitVec 32) → sProp 𝕄) :
    iprop(midFlight c W (sl t.val) t.val (by omega) ∗ freeP c W (sl (t.val + 1)) ∗ owes (c : Thread nD τ) 0 Ws
        ∗ (∀ r, iprop(readyP c W (sl t.val) t.val ∗ midFlight c W (sl (t.val + 1)) (t.val + 1) (by omega) ∗ (∃ Ws', owes (c : Thread nD τ) 0 Ws')) -∗ K r))
      ⊢ wp frame (wpE (defs₀ (F := F)) Variants.none c none) Set.univ
          (k0_part1 (grid0.coords t) hbM (Memref.isWhole_whole _) arg2 harg2 scM (Memref.isWhole_whole _) cc0_scratch1) K := by
  have hc1 : ¬cond1 (grid0.coords t) := fun h => by have := (hcond1 t).mp h; omega
  have hc2 : k0_cond2 (grid0.coords t) = 1#1 := (hcond2 t).mpr (by omega)
  have hc3 := hcond3 t
  have hc4 : k0_cond4 (grid0.coords t) = 1#1 := (hcond4 t).mpr h5
  have hc5 : ¬k0_cond5 (grid0.coords t) = 1#1 := fun h => by have := (hcond5 t).mp h; omega
  have hc6 : ¬k0_cond6 (grid0.coords t) = 1#1 := fun h => by have := (hcond6 t).mp h; omega
  have hc7 : k0_cond7 (grid0.coords t) = 1#1 := (hcond7 t).mpr (by omega)
  have hc8 : ¬k0_cond8 (grid0.coords t) = 1#1 := fun h => by have := (hcond8 t).mp h; omega
  have hc9 : ¬k0_cond9 (grid0.coords t) = 1#1 := fun h => by have := (hcond9 t).mp h; omega
  simp only [k0_part1_eq_skeleton]; unfold k0_part1_skel
  unfold midFlight freeP readyP
  iintro ⟨⟨⟨%f0, Hf0⟩, Hr0⟩, ⟨Hc1, ⟨%f1, Hs1⟩, Hw1⟩, HW, Hk⟩
  ihave Hsp := (split_mid c W (sl (t.val + 1)) (t.val + 1) (by omega)).1 $$ Hw1
  icases Hsp with ⟨Hh1, Hr1⟩
  sl_exec (disch := first | sl_exact hc1 | sl_exact hc2 | sl_exact hc3 | sl_exact hc4 | sl_exact hc5 | sl_exact hc6 | sl_exact hc7 | sl_exact hc8 | sl_exact hc9)
  sl_step
  iapply Hk
  isplitl [Hf0 Hf0_dst Hf0_src Hr0]
  · isplitl [Hf0]; · iexact Hf0
    isplitl [Hf0_dst]
    · iapply (landed_mid c W (sl t.val) t.val h1 (by omega) f0); iexact Hf0_dst
    iapply (split_mid c W (sl t.val) t.val (by omega)).2
    isplitl [Hf0_src]; · iexact Hf0_src
    iexact Hr0
  isplitl [Hc1 Hr1]
  · isplitl [Hc1]
    · iexists f1; iexact Hc1
    iexact Hr1
  iexists _; iexact HW

set_option maxHeartbeats 1000000 in
/-- At the last point but one the body starts the last block and waits for its own. -/
theorem start_six (t : Fin grid0.N) (h6 : t.val = 6) (arg2 : Memref sig .tc .vmem S256x8x1792 .f32) (harg2 : arg2.IsWhole)
    (Ws : Waits sig Unit) (K : (Σ' (_ : BitVec 32) (_ : BitVec 32), BitVec 32) → sProp 𝕄) :
    iprop(midFlight c W (sl t.val) t.val (by omega) ∗ freeP c W (sl (t.val + 1)) ∗ owes (c : Thread nD τ) 0 Ws
        ∗ (∀ r, iprop(readyP c W (sl t.val) t.val ∗ tailFlight c W (sl (t.val + 1)) ∗ (∃ Ws', owes (c : Thread nD τ) 0 Ws')) -∗ K r))
      ⊢ wp frame (wpE (defs₀ (F := F)) Variants.none c none) Set.univ
          (k0_part1 (grid0.coords t) hbM (Memref.isWhole_whole _) arg2 harg2 scM (Memref.isWhole_whole _) cc0_scratch1) K := by
  have hc1 : ¬cond1 (grid0.coords t) := fun h => by have := (hcond1 t).mp h; omega
  have hc2 : k0_cond2 (grid0.coords t) = 1#1 := (hcond2 t).mpr (by omega)
  have hc3 := hcond3 t
  have hc4 : ¬k0_cond4 (grid0.coords t) = 1#1 := fun h => by have := (hcond4 t).mp h; omega
  have hc5 : k0_cond5 (grid0.coords t) = 1#1 := (hcond5 t).mpr h6
  have hc6 : ¬k0_cond6 (grid0.coords t) = 1#1 := fun h => by have := (hcond6 t).mp h; omega
  have hc7 : k0_cond7 (grid0.coords t) = 1#1 := (hcond7 t).mpr (by omega)
  have hc8 : ¬k0_cond8 (grid0.coords t) = 1#1 := fun h => by have := (hcond8 t).mp h; omega
  have hc9 : ¬k0_cond9 (grid0.coords t) = 1#1 := fun h => by have := (hcond9 t).mp h; omega
  simp only [k0_part1_eq_skeleton]; unfold k0_part1_skel
  unfold midFlight tailFlight freeP readyP
  iintro ⟨⟨⟨%f0, Hf0⟩, Hr0⟩, ⟨Hc1, ⟨%f1, Hs1⟩, Hw1⟩, HW, Hk⟩
  ihave Hsp := (split_tail c W (sl (t.val + 1))).1 $$ Hw1
  icases Hsp with ⟨Hh1, Hr1⟩
  ihave Hsl := (slot_tail c (sl (t.val + 1)) f1).1 $$ Hs1
  icases Hsl with ⟨Ht1, Hu1⟩
  sl_exec (disch := first | sl_exact hc1 | sl_exact hc2 | sl_exact hc3 | sl_exact hc4 | sl_exact hc5 | sl_exact hc6 | sl_exact hc7 | sl_exact hc8 | sl_exact hc9)
  sl_step
  iapply Hk
  isplitl [Hf0 Hf0_dst Hf0_src Hr0]
  · isplitl [Hf0]; · iexact Hf0
    isplitl [Hf0_dst]
    · iapply (landed_mid c W (sl t.val) t.val (by omega) (by omega) f0); iexact Hf0_dst
    iapply (split_mid c W (sl t.val) t.val (by omega)).2
    isplitl [Hf0_src]; · iexact Hf0_src
    iexact Hr0
  isplitl [Hc1 Hr1 Hu1]
  · isplitl [Hc1]
    · iexists f1; iexact Hc1
    isplitl [Hr1]; · iexact Hr1
    iexists f1; iexact Hu1
  iexists _; iexact HW

set_option maxHeartbeats 1000000 in
/-- At the last point the body starts nothing and waits for the last block. -/
theorem start_last (t : Fin grid0.N) (h7 : t.val = 7) (arg2 : Memref sig .tc .vmem S256x8x1792 .f32) (harg2 : arg2.IsWhole)
    (Ws : Waits sig Unit) (K : (Σ' (_ : BitVec 32) (_ : BitVec 32), BitVec 32) → sProp 𝕄) :
    iprop(tailFlight c W (sl t.val) ∗ owes (c : Thread nD τ) 0 Ws
        ∗ (∀ r, iprop(lastP c W (sl t.val) ∗ (∃ Ws', owes (c : Thread nD τ) 0 Ws')) -∗ K r))
      ⊢ wp frame (wpE (defs₀ (F := F)) Variants.none c none) Set.univ
          (k0_part1 (grid0.coords t) hbM (Memref.isWhole_whole _) arg2 harg2 scM (Memref.isWhole_whole _) cc0_scratch1) K := by
  have hc1 : ¬cond1 (grid0.coords t) := fun h => by have := (hcond1 t).mp h; omega
  have hc2 : ¬k0_cond2 (grid0.coords t) = 1#1 := fun h => by have := (hcond2 t).mp h; omega
  have hc6 : ¬k0_cond6 (grid0.coords t) = 1#1 := fun h => by have := (hcond6 t).mp h; omega
  have hc7 : ¬k0_cond7 (grid0.coords t) = 1#1 := fun h => by have := (hcond7 t).mp h; omega
  have hc8 : k0_cond8 (grid0.coords t) = 1#1 := (hcond8 t).mpr h7
  have hc9 : ¬k0_cond9 (grid0.coords t) = 1#1 := fun h => by have := (hcond9 t).mp h; omega
  simp only [k0_part1_eq_skeleton]; unfold k0_part1_skel
  unfold tailFlight lastP
  iintro ⟨⟨⟨%f0, Hf0⟩, Hr0, Hu0⟩, HW, Hk⟩
  sl_exec (disch := first | sl_exact hc1 | sl_exact hc2 | sl_exact hc6 | sl_exact hc7 | sl_exact hc8 | sl_exact hc9)
  sl_step
  iapply Hk
  isplitl [Hf0 Hf0_dst Hf0_src Hr0 Hu0]
  · isplitl [Hf0]; · iexact Hf0
    isplitl [Hf0_dst]
    · iapply (landed_tail c W (sl t.val) f0); iexact Hf0_dst
    isplitl [Hu0]; · iexact Hu0
    iapply (split_tail c W (sl t.val)).2
    isplitl [Hf0_src]; · iexact Hf0_src
    iexact Hr0
  iexists _; iexact HW

set_option maxHeartbeats 2000000 in
/-- At the first point the body starts blocks 0 and 1, waits for block 0 and copies its first row into the three rows before it. -/
theorem start_first (t : Fin grid0.N) (h0 : t.val = 0) (arg2 : Memref sig .tc .vmem S256x8x1792 .f32) (harg2 : arg2.IsWhole)
    (Ws : Waits sig Unit) (K : (Σ' (_ : BitVec 32) (_ : BitVec 32), BitVec 32) → sProp 𝕄) :
    iprop(freeP c W (sl t.val) ∗ freeP c W (sl (t.val + 1)) ∗ owes (c : Thread nD τ) 0 Ws
        ∗ (∀ r, iprop(readyP c W (sl t.val) t.val ∗ midFlight c W (sl (t.val + 1)) (t.val + 1) (by omega) ∗ (∃ Ws', owes (c : Thread nD τ) 0 Ws')) -∗ K r))
      ⊢ wp frame (wpE (defs₀ (F := F)) Variants.none c none) Set.univ
          (k0_part1 (grid0.coords t) hbM (Memref.isWhole_whole _) arg2 harg2 scM (Memref.isWhole_whole _) cc0_scratch1) K := by
  have hc1 : cond1 (grid0.coords t) := (hcond1 t).mpr h0
  have hc2 : k0_cond2 (grid0.coords t) = 1#1 := (hcond2 t).mpr (by omega)
  have hc3 := hcond3 t
  have hc4 : k0_cond4 (grid0.coords t) = 1#1 := (hcond4 t).mpr (by omega)
  have hc5 : ¬k0_cond5 (grid0.coords t) = 1#1 := fun h => by have := (hcond5 t).mp h; omega
  have hc6 : k0_cond6 (grid0.coords t) = 1#1 := (hcond6 t).mpr h0
  have hc7 : ¬k0_cond7 (grid0.coords t) = 1#1 := fun h => by have := (hcond7 t).mp h; omega
  have hc8 : ¬k0_cond8 (grid0.coords t) = 1#1 := fun h => by have := (hcond8 t).mp h; omega
  have hc9 : k0_cond9 (grid0.coords t) = 1#1 := (hcond9 t).mpr h0
  have hcanon0 := canonFirst t h0
  have hcanon1 := canonFirstCell t h0
  simp only [k0_part1_eq_skeleton]; unfold k0_part1_skel
  unfold midFlight freeP readyP
  iintro ⟨⟨Hc0, ⟨%f0, Hs0⟩, Hw0⟩, ⟨Hc1, ⟨%f1, Hs1⟩, Hw1⟩, HW, Hk⟩
  ihave Hsp0 := (split_head c W (sl t.val)).1 $$ Hw0
  icases Hsp0 with ⟨Hh0, Hr0⟩
  ihave Hsl0 := (slot_head c (sl t.val) f0).1 $$ Hs0
  icases Hsl0 with ⟨Hl0, Hm0⟩
  ihave Hsp := (split_mid c W (sl (t.val + 1)) (t.val + 1) (by omega)).1 $$ Hw1
  icases Hsp with ⟨Hh1, Hr1⟩
  sl_exec (disch := first | sl_exact hc1 | sl_exact hc2 | sl_exact hc3 | sl_exact hc4 | sl_exact hc5 | sl_exact hc6 | sl_exact hc7 | sl_exact hc8 | sl_exact hc9)
  sl_step
  sl_unfold_run_names
  iapply Hk
  isplitl [Hc0 Hm0 Hl0 Hh0 Hr0]
  · isplitl [Hc0]; · iexact Hc0
    isplitl [Hm0 Hl0]
    · rw [show blkC c W t.val = blkC c W 0 from congrArg (blkC c W) h0]
      iapply (slot_head c (sl t.val) (blkC c W 0)).2
      isplitl [Hl0]
      · iapply (held_low c W (sl t.val) (coff15 t) (coff16 t) (coff17 t) (coff18 t) _ _ _ _ f0 _ _ _ _ (row_pay _) (row_pay _) (row_pay _))
        iexact Hl0
      iapply (landed_head c W (sl t.val) _); iexact Hm0
    iapply (split_head c W (sl t.val)).2
    isplitl [Hh0]; · iexact Hh0
    iexact Hr0
  isplitl [Hc1 Hr1]
  · isplitl [Hc1]
    · iexists f1; iexact Hc1
    iexact Hr1
  iexists _; iexact HW

end Cert.KernelIdeal.Hand

end
-- ==== Proof.Id.Run.lean ====
/- The body's run at a grid point: the transfers (Start), then the fourteen blocks of lanes read off the slot and stored. -/
module

public import proofs.«01_k».proof.Proof.Id.Start

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

variable (c : Dev nD) (W : BufOf (F := F) c hbM)

/-- Block `b`'s slot once its transfer is done: ready, but for the last block's last three rows. -/
def slotP (b : ℕ) : sProp 𝕄 := if b = 7 then lastP c W (sl b) else readyP c W (sl b) b

/-- The first part of the body at any point: from the ring before it to its block's transfer done and the next under way. -/
theorem start (t : Fin grid0.N) (arg2 : Memref sig .tc .vmem S256x8x1792 .f32) (harg2 : arg2.IsWhole)
    (Ws : Waits sig Unit) (K : (Σ' (_ : BitVec 32) (_ : BitVec 32), BitVec 32) → sProp 𝕄) :
    iprop(ringAt c W t.val ∗ owes (c : Thread nD τ) 0 Ws
        ∗ (∀ r, iprop(slotP c W t.val ∗ nextP c W (t.val + 1) ∗ (∃ Ws', owes (c : Thread nD τ) 0 Ws')) -∗ K r))
      ⊢ wp frame (wpE (defs₀ (F := F)) Variants.none c none) Set.univ
          (k0_part1 (grid0.coords t) hbM (Memref.isWhole_whole _) arg2 harg2 scM (Memref.isWhole_whole _) cc0_scratch1) K := by
  have ht : t.val < 8 := lt_of_lt_of_eq t.isLt N_0
  unfold ringAt slotP
  rcases (show t.val = 0 ∨ (1 ≤ t.val ∧ t.val ≤ 5) ∨ t.val = 6 ∨ t.val = 7 by omega) with h | h | h | h
  · rw [nextP_free c W t.val (.inl h), if_neg (by omega), nextP_mid c W (t.val + 1) (by omega) (by omega)]
    refine BIBase.Entails.trans ?_ (start_first c W t h arg2 harg2 Ws K)
    iintro ⟨⟨H1, H2⟩, H3, H4⟩
    isplitl [H1]; · iexact H1
    isplitl [H2]; · iexact H2
    isplitl [H3]; · iexact H3
    iexact H4
  · rw [nextP_mid c W t.val (by omega) (by omega), if_neg (by omega), nextP_mid c W (t.val + 1) (by omega) (by omega)]
    refine BIBase.Entails.trans ?_ (start_mid c W t h.1 h.2 arg2 harg2 Ws K)
    iintro ⟨⟨H1, H2⟩, H3, H4⟩
    isplitl [H1]; · iexact H1
    isplitl [H2]; · iexact H2
    isplitl [H3]; · iexact H3
    iexact H4
  · rw [nextP_mid c W t.val (by omega) (by omega), if_neg (by omega), nextP_tail c W (t.val + 1) (by omega)]
    refine BIBase.Entails.trans ?_ (start_six c W t h arg2 harg2 Ws K)
    iintro ⟨⟨H1, H2⟩, H3, H4⟩
    isplitl [H1]; · iexact H1
    isplitl [H2]; · iexact H2
    isplitl [H3]; · iexact H3
    iexact H4
  · rw [nextP_tail c W t.val h, if_pos h, nextP_free c W (t.val + 1) (by omega)]
    refine BIBase.Entails.trans ?_ (start_last c W t h arg2 harg2 Ws K)
    iintro ⟨⟨H1, H2⟩, H3, H4⟩
    isplitl [H1]; · iexact H1
    isplitl [H3]; · iexact H3
    iintro %r ⟨Ha, Hb⟩
    iapply H4 $$ %r
    isplitl [Ha]; · iexact Ha
    isplitl [H2]; · iexact H2
    iexact Hb

/-- What the first lane block reads off the scratch. -/
abbrev lanesLo (t : Fin grid0.N) (g : BufOf (F := F) c scM) : Vec F S1x262x8x128 .f32 :=
  View.readAt (Elt F) scM.view (Rect.unit (s := S2x262x8x256) (k0_off23 (grid0.coords t)) S1x262x8x128.size (k0_off23_inb (grid0.coords t))).toLoadRect g

set_option maxHeartbeats 1000000 in
/-- The second part of the body: the last block's last rows copied at the last point, the slot ready in every case, and the
    first lane block read off it. -/
theorem second (t : Fin grid0.N) (arg2 : Memref sig .tc .vmem S256x8x1792 .f32) (harg2 : arg2.IsWhole) (x y z : BitVec 32)
    (K : (Σ' (v33 : IVec S1x1x128 32) (v50 : IVec S1x1x128 1) (v52 : IVec S1x1x128 1) (v54 : IVec S1x1x128 1) (v56 : IVec S1x1x128 1) (v58 : IVec S1x1x128 1) (v69 : FVec F S262x8x128 .f32), FVec F S256x8x128 .f32) → sProp 𝕄) :
    iprop(slotP c W t.val
        ∗ (readyP c W (sl t.val) t.val -∗ K ⟨iota .tc S1x1x128 32 [2] iota_S1x1x128_d2_w32, k0_pay11, k0_pay12, k0_pay13, k0_pay14, k0_pay15,
            k0_pay16 (lanesLo c t (blkC c W t.val)), k0_pay17 (lanesLo c t (blkC c W t.val))⟩))
      ⊢ wp frame (wpE (defs₀ (F := F)) Variants.none c none) Set.univ
          (k0_part2 (grid0.coords t) hbM (Memref.isWhole_whole _) arg2 harg2 scM (Memref.isWhole_whole _) cc0_scratch1 x y z) K := by
  simp only [k0_part2_eq_skeleton]; unfold k0_part2_skel slotP
  by_cases h7 : t.val = 7
  · rw [if_pos h7]
    have hc10 : k0_cond10 (grid0.coords t) = 1#1 := (hcond10 t).mpr h7
    unfold lastP readyP
    iintro ⟨⟨Hc, Ht, ⟨%f, Hu⟩, Hw⟩, Hk⟩
    sl_exec (disch := first | sl_exact hc10)
    sl_unfold_run_names
    ihave Hu' := (held_high c W (sl t.val) (coff19 t) (coff20 t) (coff21 t) (coff22 t) _ _ _ _ f _ _ _ (row_pay5 _) (row_pay6 _) (row_pay7 _)) $$ Hu
    ihave Hs := (slot_tail c (sl t.val) (blkC c W 7)).2 $$ [Ht Hu']
    · isplitl [Ht]; · iexact Ht
      iexact Hu'
    sl_exec
    sl_step
    sl_unfold_run_names
    rw [show blkC c W t.val = blkC c W 7 from congrArg (blkC c W) h7]
    iapply Hk
    isplitl [Hc]; · iexact Hc
    isplitl [Hs]; · iexact Hs
    iexact Hw
  · rw [if_neg h7]
    have hc10 : ¬k0_cond10 (grid0.coords t) = 1#1 := fun h => h7 ((hcond10 t).mp h)
    unfold readyP
    iintro ⟨⟨Hc, Hs, Hw⟩, Hk⟩
    sl_exec (disch := first | sl_exact hc10)
    sl_step
    sl_unfold_run_names
    iapply Hk
    isplitl [Hc]; · iexact Hc
    isplitl [Hs]; · iexact Hs
    iexact Hw

set_option maxHeartbeats 4000000 in
/-- What the body's stores leave in the output's staging memref, as pieces (last first), with the proof that from the ring
    before the point it runs to the ring after it and the output's buffer with those pieces written. -/
def run (t : Fin grid0.N) (arg2 : Memref sig .tc .vmem S256x8x1792 .f32) (harg2 : arg2.IsWhole) :
    { L : List (View.Piece (Elt F) S256x8x1792 .f32) //
      ∀ (Ws : Waits sig Unit) (K : PUnit → sProp 𝕄),
        iprop((∃ d, owns (c : Thread nD τ) arg2 fullShare d) ∗ ringAt c W t.val ∗ owes (c : Thread nD τ) 0 Ws
            ∗ (iprop((∃ f, arg2.view.loc (c : Thread nD τ) ↦[arg2.view.set]{fullShare} arg2.view.writes (Elt F) f L)
                ∗ ringAt c W (t.val + 1) ∗ (∃ Ws', owes (c : Thread nD τ) 0 Ws')) -∗ K ⟨⟩))
          ⊢ wp frame (wpE (defs₀ (F := F)) Variants.none c none) Set.univ
              (cc0__unfold_kernel (grid0.coords t) hbM (Memref.isWhole_whole _) arg2 harg2 scM (Memref.isWhole_whole _) cc0_scratch1) K } := by
  refine ⟨?_, fun Ws K => ?run⟩
  case run =>
    simp only [cc0__unfold_kernel_eq_skeleton]; unfold cc0__unfold_kernel_skel
    unfold owns
    first | rw [wp_bind] | fail "bind failed"
    iintro ⟨⟨%d0, %f0, -, H0⟩, Hr, HW, Hk⟩
    first | iapply (start c W t arg2 harg2 Ws _) | fail "start failed"
    isplitl [Hr]; · iexact Hr
    isplitl [HW]; · iexact HW
    iintro %r ⟨Hs, Hn, ⟨%Ws', HW⟩⟩
    rcases r with ⟨v15, v31, c0⟩
    dsimp only
    first | rw [wp_bind] | fail "bind2 failed"
    iapply (second c W t arg2 harg2 v15 v31 c0 _)
    isplitl [Hs]; · iexact Hs
    iintro Hs
    unfold readyP
    icases Hs with ⟨Hc, Hs, Hw⟩
    sl_exec
    sl_step
    iapply Hk
    isplitl [H0]; · iexists _; iexact H0
    isplitl [Hn Hc Hs Hw]
    · unfold ringAt
      isplitl [Hn]; · iexact Hn
      rw [show sl (t.val + 1 + 1) = sl t.val from Ring.sl_add _ _]
      iapply (ready_free c W (sl t.val) t.val)
      unfold readyP
      isplitl [Hc]; · iexact Hc
      isplitl [Hs]; · iexact Hs
      iexact Hw
    iexists _; iexact HW

end Cert.KernelIdeal.Hand

end
-- ==== Proof.Id.Lanes.lean ====
/- One block of 128 lanes of the result: for lane `c`, the rows of lane `c / 7` of the operand block, shifted down by
   `c % 7` rows — picked by the kernel's own arithmetic on lane numbers. -/
module

public import proofs.«01_k».proof.Proof.Gen.KernelIdeal.Skeleton
public import Idealize.ShloMosaic.Lib.ValueIdxCore
public import Idealize.ShloMosaic.Lib.ValueLayout
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe
open Idealize.ShloMosaic.ValueIdx

variable {F : FTy → Type} [FloatOps F]

/-- The lane numbers of a block of lanes starting at `o`; -/
def laneNo (o : BitVec 32) : IVec S1x1x128 32 := addi (iota .tc S1x1x128 32 [2] iota_S1x1x128_d2_w32) (broadcast S1x1x128 o)
/-- each divided by seven, as a product and a shift; -/
def laneDiv (o : BitVec 32) : IVec S1x1x128 32 := shrsi (muli (laneNo o) (broadcast S1x1x128 9363#32)) (broadcast S1x1x128 16#32)
/-- the remainder; -/
def laneMod (o : BitVec 32) : IVec S1x1x128 32 := subi (laneNo o) (muli (broadcast S1x1x128 7#32) (laneDiv o))
/-- the quotient counted from lane `d`, over every row; -/
def laneRel (o d : BitVec 32) : IVec S262x8x128 32 :=
  broadcastTo S262x8x128 (shapeCast S1x1x128 (subi (laneDiv o) (broadcast S1x1x128 d)) shapeCasts_S1x1x128_S1x1x128) broadcasts_S1x1x128_S262x8x128
/-- and that with a negative one counted from the end: the lane to read. -/
def laneIdx (o d : BitVec 32) : IVec S262x8x128 32 :=
  select (cmpi .slt (laneRel o d) (broadcast S262x8x128 0#32)) (addi (laneRel o d) (broadcast S262x8x128 128#32)) (laneRel o d)

/-- The 262 rows with every lane taken from the lane it reads. -/
def gathered (o d : BitVec 32) (v : Vec F S1x262x8x128 .f32) : FVec F S262x8x128 .f32 :=
  dynamicGather 2 (shapeCast S262x8x128 v shapeCasts_S1x262x8x128_S262x8x128)
    (shapeCast S262x8x128 (shapeCast S262x8x128x1 (laneIdx o d) shapeCasts_S262x8x128_S262x8x128x1) shapeCasts_S262x8x128x1_S262x8x128)

theorem slices_at : ∀ w : Fin 7, S262x8x128.Slices ![w.val, 0, 0] S256x8x128 := by decide

/-- The block with the shifts up to `n` in place: each lane whose remainder is one of them shows its rows so many down,
    every other lane its rows as they are. -/
def upTo (o : BitVec 32) (G : FVec F S262x8x128 .f32) : (n : ℕ) → n < 7 → FVec F S256x8x128 .f32
  | 0, h => extractStridedSlice S256x8x128 ![0, 0, 0] G (slices_at ⟨0, h⟩)
  | n + 1, h => select
      (broadcastTo S256x8x128 (shapeCast S1x1x128 (cmpi .eq (laneMod o) (broadcast S1x1x128 (BitVec.ofNat 32 (n + 1)))) shapeCasts_S1x1x128_S1x1x128) broadcasts_S1x1x128_S256x8x128)
      (extractStridedSlice S256x8x128 ![n + 1, 0, 0] G (slices_at ⟨n + 1, h⟩)) (upTo o G n (by omega))

/-- A block of lanes of the result, as the kernel computes it from the slot's lanes `v`. -/
def laneBlock (o d : BitVec 32) (v : Vec F S1x262x8x128 .f32) : FVec F S256x8x128 .f32 := upTo o (gathered o d v) 6 (by decide)

/-! ## What it shows -/

/-- Where a block of lanes starts, -/
abbrev startOf (q : Fin 14) : BitVec 32 := BitVec.ofNat 32 (128 * q.val)
/-- the half of the operand's lanes it reads, -/
abbrev halfOf (q : Fin 14) : ℕ := if q.val < 7 then 0 else 128
/-- the operand's lane under lane `l` of the block, within that half, -/
abbrev laneOf (q : Fin 14) (l : Fin 128) : Fin 128 := ⟨((128 * q.val + l.val) / 7 - halfOf q) % 128, Nat.mod_lt _ (by decide)⟩
/-- and the shift of that lane. -/
abbrev shiftOf (q : Fin 14) (l : Fin 128) : ℕ := (128 * q.val + l.val) % 7

section
omit [FloatOps F]

theorem laneMod_at : ∀ (q : Fin 14) (l : Fin 128), laneMod (startOf q) (ix3 0 0 l) = BitVec.ofNat 32 (shiftOf q l) := by decide +kernel
theorem laneSub_at : ∀ (q : Fin 14) (l : Fin 128), Scalar.select
    (Scalar.cmpi .slt (subi (laneDiv (startOf q)) (broadcast S1x1x128 (BitVec.ofNat 32 (halfOf q))) (ix3 0 0 l)) 0#32)
    (Scalar.addi (subi (laneDiv (startOf q)) (broadcast S1x1x128 (BitVec.ofNat 32 (halfOf q))) (ix3 0 0 l)) 128#32)
    (subi (laneDiv (startOf q)) (broadcast S1x1x128 (BitVec.ofNat 32 (halfOf q))) (ix3 0 0 l))
      = BitVec.ofNat 32 (laneOf q l).val := by decide +kernel
/-- The quotient is in the half the block reads. -/
theorem laneOf_val : ∀ (q : Fin 14) (l : Fin 128), halfOf q + (laneOf q l).val = (128 * q.val + l.val) / 7 := by decide +kernel

/-- A row of lanes spread over rows, at an index. -/
theorem spread_at {α : Type} {n : ℕ} (x : S1x1x128.Idx → α) (h : S1x1x128.ShapeCasts S1x1x128) (hb : S1x1x128.Broadcasts ⟨3, ![n, 8, 128]⟩)
    (r : Fin n) (b : Fin 8) (l : Fin 128) :
    broadcastTo (⟨3, ![n, 8, 128]⟩ : Shape) (shapeCast S1x1x128 x h) hb (ix3 r b l) = x (ix3 0 0 l) := by
  rw [shapeCast_self]
  refine congrArg x (funext fun a => Fin.ext ?_)
  fin_cases a <;> rfl

theorem laneIdx_at (q : Fin 14) (x : Fin 262) (b : Fin 8) (l : Fin 128) :
    laneIdx (startOf q) (BitVec.ofNat 32 (halfOf q)) (ix3 x b l) = BitVec.ofNat 32 (laneOf q l).val := by
  refine Eq.trans ?_ (laneSub_at q l)
  have h : laneRel (startOf q) (BitVec.ofNat 32 (halfOf q)) (ix3 x b l)
      = subi (laneDiv (startOf q)) (broadcast S1x1x128 (BitVec.ofNat 32 (halfOf q))) (ix3 0 0 l) := spread_at _ _ _ x b l
  rw [← h]; rfl

end

/-- A gathered lane shows the lane it reads. -/
theorem gathered_at (q : Fin 14) (v : Vec F S1x262x8x128 .f32) (x : Fin 262) (b : Fin 8) (l : Fin 128) :
    gathered (startOf q) (BitVec.ofNat 32 (halfOf q)) v (ix3 x b l) = (v : S1x262x8x128.Idx → F .f32) (ix4 0 x b (laneOf q l)) := by
  unfold gathered dynamicGather
  rw [shapeCast_shapeCast]
  show v (Shape.reshapeEquiv _ _) = _
  have e : (fun a : Fin 3 => if h : a = 2 then (⟨(laneIdx (startOf q) (BitVec.ofNat 32 (halfOf q)) (ix3 x b l)).toNat % S262x8x128.size a, Nat.mod_lt _ (Fin.pos ((ix3 x b l : S262x8x128.Idx) a))⟩ : Fin (S262x8x128.size a)) else (ix3 x b l : S262x8x128.Idx) a)
      = (ix3 x b (laneOf q l) : S262x8x128.Idx) := by
    rw [laneIdx_at]
    have hl := (laneOf q l).isLt
    funext a; apply Fin.ext
    fin_cases a
    · rfl
    · rfl
    · show (BitVec.ofNat 32 (laneOf q l).val).toNat % 128 = (laneOf q l).val
      rw [BitVec.toNat_ofNat, Nat.mod_eq_of_lt (a := (laneOf q l).val) (by omega), Nat.mod_eq_of_lt hl]
  refine congrArg v ?_
  refine (congrArg (Shape.reshapeEquiv _) e).trans ?_
  exact reshapeEquiv_ix3_1abc _ _ _ _

/-- A choice by an equality of words. -/
theorem choose_eq {α : Type} (a b : BitVec 32) (x y : α) : Scalar.select (Scalar.cmpi .eq a b) x y = if a = b then x else y := by
  by_cases h : a = b
  · simp [Scalar.select, Scalar.cmpi, IntOp.cmpi, h]
  · simp [Scalar.select, Scalar.cmpi, IntOp.cmpi, h, beq_eq_false_iff_ne.mpr h]

theorem upTo_at (q : Fin 14) (G : FVec F S262x8x128 .f32) (n : ℕ) (h : n < 7) (r : Fin 256) (b : Fin 8) (l : Fin 128) :
    upTo (startOf q) G n h (ix3 r b l)
      = G (ix3 ⟨r.val + (if shiftOf q l ≤ n then shiftOf q l else 0), by have := r.isLt; have : shiftOf q l < 7 := Nat.mod_lt _ (by decide); split <;> omega⟩ b l) := by
  have hs : shiftOf q l < 7 := Nat.mod_lt _ (by decide)
  induction n with
  | zero =>
    unfold upTo
    refine congrArg G (funext fun a => Fin.ext ?_)
    fin_cases a
    · show 0 + r.val = r.val + (if shiftOf q l ≤ 0 then shiftOf q l else 0)
      split <;> omega
    · show 0 + b.val = b.val
      omega
    · show 0 + l.val = l.val
      omega
  | succ n ih =>
    unfold upTo
    show Scalar.select (broadcastTo S256x8x128 (shapeCast S1x1x128 (cmpi .eq (laneMod (startOf q)) (broadcast S1x1x128 (BitVec.ofNat 32 (n + 1)))) _) _ (ix3 r b l)) _ _ = _
    rw [spread_at, ih (by omega)]
    show Scalar.select (Scalar.cmpi .eq (laneMod (startOf q) (ix3 0 0 l)) (BitVec.ofNat 32 (n + 1))) _ _ = _
    rw [laneMod_at, choose_eq]
    have hw : BitVec.ofNat 32 (shiftOf q l) = BitVec.ofNat 32 (n + 1) ↔ shiftOf q l = n + 1 := by
      constructor
      · intro e
        have := congrArg BitVec.toNat e
        rw [BitVec.toNat_ofNat, BitVec.toNat_ofNat, Nat.mod_eq_of_lt (by omega), Nat.mod_eq_of_lt (by omega)] at this
        exact this
      · intro e; rw [e]
    by_cases e : shiftOf q l = n + 1
    · rw [if_pos (hw.mpr e)]
      refine congrArg G (funext fun a => Fin.ext ?_)
      fin_cases a
      · show n + 1 + r.val = r.val + (if shiftOf q l ≤ n + 1 then shiftOf q l else 0)
        rw [if_pos (by omega)]; omega
      · show 0 + b.val = b.val
        omega
      · show 0 + l.val = l.val
        omega
    · rw [if_neg (fun h' => e (hw.mp h'))]
      refine congrArg G (funext fun a => Fin.ext ?_)
      fin_cases a
      · show r.val + (if shiftOf q l ≤ n then shiftOf q l else 0) = r.val + (if shiftOf q l ≤ n + 1 then shiftOf q l else 0)
        by_cases h' : shiftOf q l ≤ n
        · rw [if_pos h', if_pos (by omega)]
        · rw [if_neg h', if_neg (by omega)]
      · rfl
      · rfl

/-- A block of lanes shows, at row `r` and lane `l`, the slot's row `r + c % 7` at lane `c / 7`, where `c` is the lane's number. -/
theorem laneBlock_at (q : Fin 14) (v : Vec F S1x262x8x128 .f32) (r : Fin 256) (b : Fin 8) (l : Fin 128) :
    laneBlock (startOf q) (BitVec.ofNat 32 (halfOf q)) v (ix3 r b l)
      = (v : S1x262x8x128.Idx → F .f32) (ix4 0 ⟨r.val + shiftOf q l, by have := r.isLt; have : shiftOf q l < 7 := Nat.mod_lt _ (by decide); omega⟩ b (laneOf q l)) := by
  have hs : shiftOf q l < 7 := Nat.mod_lt _ (by decide)
  unfold laneBlock
  rw [upTo_at, gathered_at]
  congr 2
  exact Fin.ext (congrArg (r.val + ·) (if_pos (by omega)))

end Cert.KernelIdeal.Hand

end
-- ==== Proof.Id.Block.lean ====
/- What one run of the body leaves in the output's buffer: the block of the result at that point. -/
module

public import proofs.«01_k».proof.Proof.Id.Run
public import proofs.«01_k».proof.Proof.Id.Lanes

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx

variable {F : FTy → Type} [FloatOps F]

variable (c : Dev nD) (W : BufOf (F := F) c hbM)

/-- What the lane blocks of the second half read off the scratch. -/
abbrev lanesHi (t : Fin grid0.N) (g : BufOf (F := F) c scM) : Vec F S1x262x8x128 .f32 :=
  View.readAt (Elt F) scM.view (Rect.unit (s := S2x262x8x256) (k0_off24 (grid0.coords t)) S1x262x8x128.size (k0_off24_inb (grid0.coords t))).toLoadRect g

theorem inb_lanes (q : Fin 14) : ∀ a, (![0, 0, 128 * q.val] : Fin 3 → ℕ) a + S256x8x128.size a ≤ S256x8x1792.size a := by
  have := q.isLt; intro a; fin_cases a <;> simp <;> omega

/-- What the store of lane block `q` puts into the output's buffer. -/
def lanePiece (t : Fin grid0.N) (q : Fin 14) : View.Piece (Elt F) S256x8x1792 .f32 :=
  ⟨Rect.unit (s := S256x8x1792) ![0, 0, 128 * q.val] S256x8x128.size (inb_lanes q),
    laneBlock (startOf q) (BitVec.ofNat 32 (halfOf q)) (if q.val < 7 then lanesLo c t (blkC c W t.val) else lanesHi c t (blkC c W t.val))⟩

set_option maxRecDepth 65536 in
/-- The run's pieces are the fourteen lane blocks, the last first. -/
theorem run_pieces (t : Fin grid0.N) (arg2 : Memref sig .tc .vmem S256x8x1792 .f32) (harg2 : arg2.IsWhole) :
    (run c W t arg2 harg2).1 = (List.finRange 14).reverse.map (lanePiece c W t) := rfl

/-! ## The block -/

/-- The result's block at point `b`: row `r`, lane `c` shows the operand's row `row b (r + c % 7)` at lane `c / 7`. -/
def outBlk (b : ℕ) : S256x8x1792.Idx → F .f32 := fun j =>
  (W : S2048x8x256.Idx → F .f32) (ix3 (row b ((j 0).val + (j 2).val % 7)) (j 1)
    ⟨(j 2).val / 7, by have h : (j 2).val < 1792 := (j 2).isLt; omega⟩)

/-- Where 128 lanes of slot `s` from lane `d` lie in the scratch. -/
theorem emb_lanes (s : Fin 2) (d : ℕ) (hd : d ≤ 128) {off : Fin 4 → ℕ} (h : off = ![s.val, 0, 0, d])
    (hb : ∀ a, off a + S1x262x8x128.size a ≤ S2x262x8x256.size a) (x : Fin 262) (y : Fin 8) (z : Fin 128) :
    (Rect.unit (s := S2x262x8x256) off S1x262x8x128.size hb).emb (ix4 0 x y z) = (ix4 s x y ⟨d + z.val, by omega⟩ : S2x262x8x256.Idx) := by
  subst h; funext a; apply Fin.ext; fin_cases a <;> simp [Rect.emb, Rect.unit]

/-- What a lane block reads: the slot's rows at the lanes of its half. -/
theorem lanes_at (t : Fin grid0.N) (q : Fin 14) (g : BufOf (F := F) c scM) (x : Fin 262) (y : Fin 8) (z : Fin 128) :
    ((if q.val < 7 then lanesLo c t g else lanesHi c t g : Vec F S1x262x8x128 .f32) : S1x262x8x128.Idx → F .f32) (ix4 0 x y z)
      = (g : S2x262x8x256.Idx → F .f32) (ix4 (sl t.val) x y ⟨halfOf q + z.val, by unfold halfOf; split <;> omega⟩) := by
  by_cases hq : q.val < 7
  · rw [if_pos hq]
    refine (congrArg (g : S2x262x8x256.Idx → F .f32) (emb_lanes (sl t.val) 0 (by omega) (coff23 t) _ x y z)).trans ?_
    refine congrArg (fun k => (g : S2x262x8x256.Idx → F .f32) (ix4 (sl t.val) x y k)) (Fin.ext ?_)
    show 0 + z.val = halfOf q + z.val
    unfold halfOf; rw [if_pos hq]
  · rw [if_neg hq]
    refine (congrArg (g : S2x262x8x256.Idx → F .f32) (emb_lanes (sl t.val) 128 (by omega) (coff24 t) _ x y z)).trans ?_
    refine congrArg (fun k => (g : S2x262x8x256.Idx → F .f32) (ix4 (sl t.val) x y k)) (Fin.ext ?_)
    show 128 + z.val = halfOf q + z.val
    unfold halfOf; rw [if_neg hq]

/-- Every piece agrees with the block. -/
theorem lanePiece_val (t : Fin grid0.N) (q : Fin 14) (x : S256x8x128.Idx) :
    ((lanePiece c W t q).2 : S256x8x128.Idx → F .f32) x = outBlk c W t.val ((lanePiece c W t q).1.emb x) := by
  obtain ⟨r, b, l, rfl⟩ : ∃ (r : Fin 256) (b : Fin 8) (l : Fin 128), x = ix3 r b l := ⟨_, _, _, eq_ix3 x⟩
  refine (laneBlock_at q _ r b l).trans ((lanes_at c t q (blkC c W t.val) _ b (laneOf q l)).trans ?_)
  have hv := laneOf_val q l
  refine congrArg W (funext fun a => Fin.ext ?_)
  fin_cases a
  · show min (256 * t.val + (r.val + (128 * q.val + l.val) % 7) - 3) 2047 = min (256 * t.val + (0 + 1 * r.val + (128 * q.val + 1 * l.val) % 7) - 3) 2047
    rw [Nat.zero_add, Nat.one_mul, Nat.one_mul]
  · show b.val = 0 + 1 * b.val
    omega
  · show halfOf q + (laneOf q l).val = (128 * q.val + 1 * l.val) / 7
    rw [hv, Nat.one_mul]

/-- The pieces cover the block. -/
theorem run_cover (t : Fin grid0.N) (arg2 : Memref sig .tc .vmem S256x8x1792 .f32) (harg2 : arg2.IsWhole) (y : S256x8x1792.Idx) :
    ∃ pc ∈ (run c W t arg2 harg2).1, y ∈ pc.1.set := by
  have h0 : (y 0).val < 256 := (y 0).isLt
  have h1 : (y 1).val < 8 := (y 1).isLt
  have h2 : (y 2).val < 1792 := (y 2).isLt
  rw [run_pieces]
  refine ⟨lanePiece c W t ⟨(y 2).val / 128, by omega⟩, List.mem_map.mpr ⟨_, List.mem_reverse.mpr (List.mem_finRange _), rfl⟩, ?_⟩
  show y ∈ (Rect.unit (s := S256x8x1792) ![0, 0, 128 * ((y 2).val / 128)] S256x8x128.size (inb_lanes ⟨(y 2).val / 128, by omega⟩)).set
  rw [Rect.mem_set_unit]
  intro a
  fin_cases a
  · exact ⟨Nat.zero_le _, by show (y 0).val < 0 + 256; omega⟩
  · exact ⟨Nat.zero_le _, by show (y 1).val < 0 + 8; omega⟩
  · exact ⟨by show 128 * ((y 2).val / 128) ≤ (y 2).val; omega, by show (y 2).val < 128 * ((y 2).val / 128) + 128; omega⟩

/-- What the run leaves in the output's buffer is the block, whatever the buffer held. -/
theorem run_block (t : Fin grid0.N) (arg2 : Memref sig .tc .vmem S256x8x1792 .f32) (harg2 : arg2.IsWhole)
    (f : BufOf (F := F) c arg2) :
    arg2.view.read (Elt F) (arg2.view.writes (Elt F) f (run c W t arg2 harg2).1) = outBlk c W t.val := by
  refine funext fun y => View.read_writes_apply_of_pieces _ _ (outBlk c W t.val) _ (fun p hp x => ?_) y (run_cover c W t arg2 harg2 y)
  rw [run_pieces] at hp
  obtain ⟨q, -, rfl⟩ := List.mem_map.mp hp
  exact lanePiece_val c W t q x

end Cert.KernelIdeal.Hand

end
-- ==== Proof.Id.Frame.lean ====
/- The launch: what it hands the ring and takes back, the body at every point, the run of the whole program, and the frame. -/
module

public import proofs.«01_k».proof.Proof.Id.Block
public import proofs.«01_k».proof.Proof.Gen.KernelIdeal.Launch
public import proofs.«01_k».proof.Proof.Gen.KernelIdeal.Points
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring's two ends -/

section Ends
variable (c : Dev nD) (W : BufOf (F := F) c hbM)

/-- A slot's elements in the scratch. -/
abbrev slotSet (s : Fin 2) : Finset S2x262x8x256.Idx := (Rect.unit (s := S2x262x8x256) ![s.val, 0, 0, 0] S1x262x8x256.size (inb_slot s)).set
theorem slotSet_disjoint (s s' : Fin 2) (h : s ≠ s') : Disjoint (slotSet s) (slotSet s') :=
  Ring.lead_disjoint (s := S2x262x8x256) (0 : Fin 4) 1 (fun s : Fin 2 => (![s.val, 0, 0, 0] : Fin 4 → Nat)) S1x262x8x256.size inb_slot (fun s => by simp) rfl s s' h
theorem slotSet_cover : Finset.univ.biUnion slotSet = Finset.univ :=
  Ring.lead_cover (s := S2x262x8x256) (0 : Fin 4) 1 (fun s : Fin 2 => (![s.val, 0, 0, 0] : Fin 4 → Nat)) S1x262x8x256.size inb_slot (fun s => by simp)
    (fun s a ha => by fin_cases a <;> first | exact absurd rfl ha | rfl) rfl (fun a ha => by fin_cases a <;> first | exact absurd rfl ha | rfl) rfl
theorem slotSet_eq (s : Fin 2) : (rslot s).view.set = slotSet s := by
  simp only [rslot, Memref.view_squeeze, View.set_reshape]; exact View.set_slice_whole _ _
/-- A slot held is its elements of the scratch held. -/
theorem held_slot (s : Fin 2) (f : BufOf (F := F) c scM) :
    held c (rslot s) f = (((c : Thread nD τ).loc cc0_scratch0) ↦[slotSet s]{fullShare} f : sProp 𝕄) := by
  unfold held; rw [slotSet_eq]; rfl

set_option maxHeartbeats 1000000 in
/-- The scratch whole at anything is its slots at something each, -/
theorem slots_in : iprop(∃ d, owns (c : Thread nD τ) scM fullShare d) ⊢ (iprop((∃ f, held (F := F) c (rslot 0) f) ∗ ∃ f, held (F := F) c (rslot 1) f) : sProp 𝕄) := by
  simp only [scM, owns_whole]
  exact Ring.slots2_split (U := Pipeline.UD sig nD τ) (ℓ := (c : Thread nD τ).loc cc0_scratch0) (q := fullShare) slotSet slotSet_disjoint slotSet_cover
    (fun f => held (F := F) c (rslot 0) f) (fun f => held (F := F) c (rslot 1) f) (held_slot c 0) (held_slot c 1)
set_option maxHeartbeats 1000000 in
/-- and back. -/
theorem slots_out : (iprop((∃ f, held (F := F) c (rslot 0) f) ∗ ∃ f, held (F := F) c (rslot 1) f) : sProp 𝕄) ⊢ iprop(∃ d, owns (c : Thread nD τ) scM fullShare d) := by
  simp only [scM, owns_whole]
  exact Ring.slots2_join (U := Pipeline.UD sig nD τ) (ℓ := (c : Thread nD τ).loc cc0_scratch0) (q := fullShare) slotSet slotSet_disjoint slotSet_cover
    (fun f => held (F := F) c (rslot 0) f) (fun f => held (F := F) c (rslot 1) f) (held_slot c 0) (held_slot c 1)

/-- The operand held whole. -/
abbrev operandP : sProp 𝕄 := hbM.view.loc (c : Thread nD τ) ↦{fullShare} W
/-- The operand whole is the two slots' copies of it. -/
theorem operand_split : (operandP c W : sProp 𝕄) ⊣⊢ iprop(wholeP c W 0 ∗ wholeP c W 1) :=
  pointsTo_share (PosShare.mem_left_op_right fullShare)

theorem cellP_0 : cellP (F := F) c 0 = (semVal ((c : Thread nD τ), SemLoc.dma 2) 0 : sProp 𝕄) :=
  congrArg (fun x => (semVal ((c : Thread nD τ), x) 0 : sProp 𝕄)) cellR_0
theorem cellP_1 : cellP (F := F) c 1 = (semVal ((c : Thread nD τ), SemLoc.dma 3) 0 : sProp 𝕄) :=
  congrArg (fun x => (semVal ((c : Thread nD τ), x) 0 : sProp 𝕄)) cellR_1

/-- The scratch whole, the two cells at zero and the operand whole. -/
abbrev endsP : sProp 𝕄 := iprop((∃ d, owns (c : Thread nD τ) scM fullShare d)
  ∗ (semVal ((c : Thread nD τ), SemLoc.dma 2) 0 ∗ semVal ((c : Thread nD τ), SemLoc.dma 3) 0) ∗ operandP c W)

/-- Before the first point and after the last both slots are free. -/
theorem ringAt_end (n : ℕ) (h : n = 0 ∨ n = 8) : ringAt c W n = iprop(freeP c W 0 ∗ freeP c W 1) := by
  unfold ringAt; rw [nextP_free c W n h]
  rcases h with rfl | rfl <;> rfl

/-- What the launch hands over is the ring with both slots free, -/
theorem ring_in : endsP c W ⊢ iprop(freeP c W 0 ∗ freeP c W 1) := by
  unfold freeP; rw [cellP_0, cellP_1]
  iintro ⟨HS, ⟨Hq0, Hq1⟩, HW⟩
  ihave HS' := (slots_in c) $$ HS
  icases HS' with ⟨H0, H1⟩
  ihave HW' := (operand_split c W).1 $$ HW
  icases HW' with ⟨HW0, HW1⟩
  isplitl [Hq0 H0 HW0]
  · isplitl [Hq0]; · iexact Hq0
    isplitl [H0]; · iexact H0
    iexact HW0
  isplitl [Hq1]; · iexact Hq1
  isplitl [H1]; · iexact H1
  iexact HW1
/-- and the ring with both slots free gives it back. -/
theorem ring_out : iprop(freeP c W 0 ∗ freeP c W 1) ⊢ endsP c W := by
  unfold freeP; rw [cellP_0, cellP_1]
  iintro ⟨⟨Hq0, H0, HW0⟩, ⟨Hq1, H1, HW1⟩⟩
  isplitl [H0 H1]
  · iapply (slots_out c)
    isplitl [H0]; · iexact H0
    iexact H1
  isplitl [Hq0 Hq1]
  · isplitl [Hq0]; · iexact Hq0
    iexact Hq1
  iapply (operand_split c W).2
  isplitl [HW0]; · iexact HW0
  iexact HW1
end Ends

/-! ## The launch's terms -/

variable (m : (ℓ : Loc nD τ sig) → Buf (Elt F) ℓ) (ρ : Dev nD → PrngReg)

/-- The state at the start: counters at zero. -/
abbrev s₀ : MemSt nD τ sig (Elt F) := ⟨m, fun _ => 0, ρ⟩
/-- What the region finds in a buffer: what was launched. -/
abbrev V (c : Dev nD) (b : Ref sig .tc) : Buf (Elt F) ((c : Thread nD τ).loc b) := m ((c : Thread nD τ).loc b)

set_option maxHeartbeats 800000 in
/-- The program is its region alone. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The output's staging memref at a point. -/
abbrev stageM (t : Fin cfg0.N) : Memref sig .tc .vmem S256x8x1792 .f32 := win0_0.stage (cfg0.slots t 0)
abbrev stageWhole (t : Fin cfg0.N) : (stageM t).IsWhole := hstage0_0 ((cfg0.slots t 0).cast nbuf0_0)

/-- The body's own semaphores. -/
abbrev osem0 : Fin 2 → SemLoc sig := fun j => (![SemLoc.dma 2, SemLoc.dma 3] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
/-- The operand the body moves itself. -/
def H0 : Finset (Ref sig .tc) := {main_arg0}
theorem H0_sub : H0 ⊆ Pipeline.restRefs sig spec0 := by decide
theorem operands_eq (c : Dev nD) :
    (bigSep H0 (fun b => ((c : Thread nD τ).loc b) ↦{fullShare} V m c b) : sProp 𝕄) = iprop(operandP c (V m c main_arg0)) := by
  rw [BI.bigSep_eq_bigSepL_of_eq [main_arg0] (by decide) (by decide)]; rfl
/-- What the launch hands the body: the scratch, the register, the two cells, the operand. -/
theorem launched_eq (c : Dev nD) :
    (Pipeline.ΦD osem0 spec0 H0 (V m) c : sProp 𝕄)
      = iprop(iprop((∃ d, owns (c : Thread nD τ) scM fullShare d)) ∗ (∃ r, prngReg c r)
          ∗ iprop(semVal ((c : Thread nD τ), SemLoc.dma 2) 0 ∗ semVal ((c : Thread nD τ), SemLoc.dma 3) 0) ∗ iprop(operandP c (V m c main_arg0))) := by
  rw [Pipeline.ΦD_eq, scopedRest0_eq, ownSems00_eq, operands_eq]; simp only [scM, owns_whole]; try rfl

/-- The invariant before point `k`: the register and the ring. -/
def PhiR (c : Dev nD) (k : ℕ) : sProp 𝕄 := iprop((∃ r, prngReg c r) ∗ ringAt c (V m c main_arg0) k)

/-- What the body leaves at every point: the output's block. -/
def dats (_ : Fin 1) (c : Dev nD) : Dat τ (Elt F) Unit ℕ (Pipeline.UD sig nD τ) ℕ cfg0 c where
  A w := V m c (Pipeline.arrRef spec0 w)
  after w t := match w with
    | ⟨0, _⟩ => outBlk c (V m c main_arg0) t.val
  Φ t := PhiR m c t.val
  q _ := fullShare
  owed _ := 0

theorem A_eq (c : Dev nD) (w : Fin 1) : (dats m 0 c).A w = V m c (Pipeline.arrRef spec0 w) := by dsimp only [dats]
theorem Phi_castSucc (c : Dev nD) (t : Fin cfg0.N) : (dats m 0 c).Φ t.castSucc = PhiR m c t.val := by
  dsimp only [dats]; simp only [Fin.val_castSucc]
theorem Phi_succ (c : Dev nD) (t : Fin cfg0.N) : (dats m 0 c).Φ t.succ = PhiR m c (t.val + 1) := by
  dsimp only [dats]; simp only [Fin.val_succ]
theorem after0_0 (c : Dev nD) (t : Fin cfg0.N) : (dats m 0 c).after 0 t = outBlk c (V m c main_arg0) t.val := by dsimp only [dats]

/-! ## The body at a point -/

/-- What the body is given at a point, -/
def bodyPre (c : Dev nD) (t : Fin cfg0.N) : sProp 𝕄 :=
  iprop((dats m 0 c).Φ t.castSucc ∗ (dats m 0 c).owesAt () t.castSucc ∗ (∃ d, owns (c : Thread nD τ) (stageM t) fullShare ((dats m 0 c).before 0 t d)))
/-- and what it leaves. -/
def bodyPost (c : Dev nD) (t : Fin cfg0.N) : sProp 𝕄 :=
  iprop((dats m 0 c).Φ t.succ ∗ (dats m 0 c).owesAt () t.succ ∗ owns (c : Thread nD τ) (stageM t) fullShare ((dats m 0 c).after 0 t))

/-- The body at a point keeps the ring and leaves the output's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [after0_0, Phi_castSucc, Phi_succ]
  unfold Dat.owesAt Pipeline.owesWithin
  rw [show (dats m 0 c).owed t.castSucc = 0 from rfl, show (dats m 0 c).owed t.succ = 0 from rfl]
  unfold PhiR
  iintro ⟨⟨Hg, Hr⟩, ⟨%Ws, -, HW⟩, ⟨%d0, H0⟩⟩
  iapply ((run c (V m c main_arg0) t (stageM t) (stageWhole t)).2 Ws _)
  isplitl [H0]; · iexists _; iexact H0
  isplitl [Hr]; · iexact Hr
  isplitl [HW]; · iexact HW
  iintro ⟨⟨%e0, H0⟩, Hr, ⟨%W', HW'⟩⟩
  isplitl [Hg Hr]
  · isplitl [Hg]; · iexact Hg
    iexact Hr
  isplitl [HW']
  · iexists W'; isplitr; · ipureintro; exact fun _ _ => Or.inl trivial
    iexact HW'
  unfold owns; iexists _; isplitr
  swap; · iexact H0
  ipureintro; exact run_block c (V m c main_arg0) t (stageM t) (stageWhole t) e0

theorem defs₀_row (t : Fin cfg0.N) :
    defs₀ (F := F) .tc cfg0.body (cfg0.bodyArgs t (cfg0.slots t)) = bodyAt0 t := by
  unfold defs₀; rw [Defs.onTc_tc]

/-- The body does what the launch asks, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point, -/
theorem hin (c : Dev nD) : Pipeline.ΦD osem0 spec0 H0 (V m) c ⊢ (dats m 0 c).Φ 0 := by
  rw [launched_eq, show (dats m 0 c).Φ 0 = PhiR m c 0 from rfl]
  unfold PhiR; rw [ringAt_end c _ 0 (Or.inl rfl)]
  iintro ⟨HS, Hg, Hq, HW⟩
  isplitl [Hg]; · iexact Hg
  iapply (ring_in c (V m c main_arg0))
  isplitl [HS]; · iexact HS
  isplitl [Hq]; · iexact Hq
  iexact HW
/-- and the invariant after the last point gives it back. -/
theorem hout (c : Dev nD) : (dats m 0 c).Φ (Fin.last cfg0.N) ⊢ Pipeline.ΦD osem0 spec0 H0 (V m) c := by
  rw [launched_eq, show (dats m 0 c).Φ (Fin.last cfg0.N) = PhiR m c grid0.N from rfl]
  rw [show grid0.N = 8 by rw [N_0]]
  unfold PhiR; rw [ringAt_end c _ 8 (Or.inr rfl)]
  iintro ⟨Hg, Hr⟩
  ihave H := (ring_out c (V m c main_arg0)) $$ Hr
  icases H with ⟨HS, Hq, HW⟩
  isplitl [HS]; · iexact HS
  isplitl [Hg]; · iexact Hg
  isplitl [Hq]; · iexact Hq
  iexact HW

/-! ## The run and the frame -/

set_option backward.isDefEq.respectTransparency.types false in
/-- The program ends, its array at what the blocks leave, every other buffer as launched, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- After a run the argument is as launched. -/
theorem kept (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans rfl

/-- The frame: the program ends, its argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => kept m r h.1 c, h.2⟩) (run_main_quiescent m ρ)

end Cert.KernelIdeal.Hand
-- ==== Proof.Windows.lean ====
/- What every program here computes: the seven-row windows of an array, laid out on its last axis. -/
module

public import Idealize.ShloMosaic.Lib.ValueIdxCore

@[expose] public section

noncomputable section

namespace Cert.Hand

open Idealize.ShloMosaic Idealize.ShloMosaic.ValueIdx

/-- The row a result row shows at window place `w`: `n + w - 3`, kept between the first row and the last. -/
def rowAt (n w : ℕ) : Fin 2048 := ⟨min (n + w - 3) 2047, by omega⟩

/-- The windows laid out: row `n`, lane `c` shows row `n + c % 7 - 3` (kept within the array) at lane `c / 7`. -/
def unfolded {α : Type} (W : (⟨3, ![2048, 8, 256]⟩ : Shape).Idx → α) : (⟨3, ![2048, 8, 1792]⟩ : Shape).Idx → α := fun j =>
  W (ix3 (rowAt (j 0).val ((j 2).val % 7)) (j 1) ⟨(j 2).val / 7, by have h : (j 2).val < 1792 := (j 2).isLt; omega⟩)

end Cert.Hand
-- ==== Proof.Id.Value.lean ====
/- The result array after a run: every point's block in place. -/
module

public import proofs.«01_k».proof.Proof.Id.Frame
public import proofs.«01_k».proof.Proof.Windows

@[expose] public section

set_option maxRecDepth 16384

noncomputable section

namespace Cert.KernelIdeal.Hand

open Cert.Hand Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]

variable (m : (ℓ : Loc nD τ sig) → Buf (Elt F) ℓ) (ρ : Dev nD → PrngReg)

/-- Where the output's block lies at each point. -/
theorem index_val : ∀ t : Fin grid0.N, win0_0.index t 0 = t.val ∧ win0_0.index t 1 = 0 ∧ win0_0.index t 2 = 0
    ∧ win0_0.xsize (grid0.coords t) 0 = 256 ∧ win0_0.xsize (grid0.coords t) 1 = 8 ∧ win0_0.xsize (grid0.coords t) 2 = 1792 := by
  decide +kernel

/-- What a point writes back is its block of the windows laid out. -/
theorem flushed_eq (c : Dev nD) (t : Fin cfg0.N) :
    (dats m 0 c).flushed 0 t = (win0_0.blk t).view.read (Elt F) (unfolded (V m c main_arg0 : S2048x8x256.Idx → F .f32)) := by
  show (cfg0.win 0).cut (grid0.coords t) ((dats m 0 c).after 0 t) = _
  rw [after0_0]
  obtain ⟨h0, h1, h2, -⟩ := index_val t
  funext y
  refine congrArg (V m c main_arg0 : S2048x8x256.Idx → F .f32) (funext fun a => Fin.ext ?_)
  fin_cases a
  · show min (256 * t.val + ((y 0).val + (y 2).val % 7) - 3) 2047
      = min (win0_0.index t 0 * 256 + 1 * (y 0).val + (win0_0.index t 2 * 1792 + 1 * (y 2).val) % 7 - 3) 2047
    rw [h0, h2, Nat.zero_mul, Nat.zero_add, Nat.one_mul, Nat.one_mul, Nat.mul_comm, Nat.add_assoc]
  · show (y 1).val = win0_0.index t 1 * 8 + 1 * (y 1).val
    rw [h1]; omega
  · show (y 2).val / 7 = (win0_0.index t 2 * 1792 + 1 * (y 2).val) / 7
    rw [h2, Nat.zero_mul, Nat.zero_add, Nat.one_mul]

/-- The points' blocks are all of the array. -/
theorem cover (i : S2048x8x1792.Idx) :
    ∃ t : Fin cfg0.N, (cfg0.win 0).flush t = true ∧ i ∈ ((cfg0.win 0).blk t).view.set := by
  have i0 : (i 0).val < 2048 := (i 0).isLt
  have i1 : (i 1).val < 8 := (i 1).isLt
  have i2 : (i 2).val < 1792 := (i 2).isLt
  have hN : cfg0.N = 8 := N_0
  refine ⟨⟨(i 0).val / 256, by omega⟩, flush0_0 _, ?_⟩
  generalize ht : (⟨(i 0).val / 256, _⟩ : Fin cfg0.N) = t
  have hv : t.val = (i 0).val / 256 := by rw [← ht]
  obtain ⟨h0, h1, h2, x0, x1, x2⟩ := index_val t
  show i ∈ ((View.whole main_v0).slice (win0_0.rect t)).set
  rw [View.set_slice_whole, Rect.mem_set_unit]
  intro a
  fin_cases a
  · show win0_0.index t 0 * 256 ≤ (i 0).val ∧ (i 0).val < win0_0.index t 0 * 256 + win0_0.xsize (grid0.coords t) 0
    rw [h0, x0]; omega
  · show win0_0.index t 1 * 8 ≤ (i 1).val ∧ (i 1).val < win0_0.index t 1 * 8 + win0_0.xsize (grid0.coords t) 1
    rw [h1, x1]; omega
  · show win0_0.index t 2 * 1792 ≤ (i 2).val ∧ (i 2).val < win0_0.index t 2 * 1792 + win0_0.xsize (grid0.coords t) 2
    rw [h2, x2]; omega

/-- So the result array ends holding the windows laid out, -/
theorem final (c : Dev nD) : (dats m 0 c).arrAt 0 cfg0.N = unfolded (V m c main_arg0 : S2048x8x256.Idx → F .f32) :=
  (dats m 0 c).arrAt_eq_of_cover 0 _ (fun t _ => flushed_eq m c t) cover

/-- and the run, read: the result at the windows laid out. -/
theorem run_value : θ_run defs (onTc (τ := τ) (main (F := F))) ⟨m, fun _ => 0, ρ⟩ fun r => ∀ c : Dev nD,
      r.2.mem ((c.tc : Thread nD τ).loc main_v0) = unfolded (m ((c.tc : Thread nD τ).loc main_arg0) : S2048x8x256.Idx → F .f32)
      ∧ r.2.mem ((c.tc : Thread nD τ).loc main_arg0) = m ((c.tc : Thread nD τ).loc main_arg0) :=
  (θ_run defs _ _).mono (fun r h c => ⟨((h.1 c).1 0).trans (final m c), kept m r h.1 c⟩) (run_main_quiescent m ρ)

end Cert.KernelIdeal.Hand
-- ==== Proof.Ref.Value.lean ====
/- What the reference computes: its array padded at both ends, seven shifts of it stacked last, flattened. -/
module

public import proofs.«01_k».proof.Proof.Gen.ReferenceIdeal.Run
public import proofs.«01_k».proof.Proof.Windows
public import Idealize.ShloMosaic.Lib.Pointwise
public import Idealize.ShloMosaic.Lib.Pipeline.ValueKit.Tiles

@[expose] public section

set_option maxRecDepth 16384

noncomputable section

namespace Cert.ReferenceIdeal.Hand

open Cert.Hand Cert.ReferenceIdeal Cert.ReferenceIdeal.Gen Cert.ReferenceIdeal.Value
open Idealize.ShloMosaic Idealize.ShloMosaic.TcCoe Idealize.SL.Sem

variable {F : FTy → Type} [FloatOps F]

/-- The array with its first row three more times in front and its last row three more times behind. -/
def padded (W : S2048x8x256.Idx → F .f32) : S2054x8x256.Idx → F .f32 :=
  concatenate S2054x8x256 0
    [⟨S3x8x256, broadcastInDim S3x8x256 ![0, 1, 2] bcast_S1x8x256_S3x8x256_0_1_2 (extractStridedSlice S1x8x256 ![0, 0, 0] W slices_S2048x8x256_S1x8x256_0_0_0)⟩,
     ⟨S2048x8x256, W⟩,
     ⟨S3x8x256, broadcastInDim S3x8x256 ![0, 1, 2] bcast_S1x8x256_S3x8x256_0_1_2 (extractStridedSlice S1x8x256 ![2047, 0, 0] W slices_S2048x8x256_S1x8x256_2047_0_0)⟩]
    concatenates_S3x8x256_S2048x8x256_S3x8x256_S2054x8x256_d0

/-- Row `p` of the padded array is the row three before it, kept within the array. -/
theorem padded_at (W : S2048x8x256.Idx → F .f32) (p : Fin 2054) (b : Fin 8) (d : Fin 256) :
    padded W (ix3 p b d) = W (ix3 (rowAt p.val 0) b d) := by
  unfold padded
  pointwise
  have hp := p.isLt
  have key : ∀ (q : Fin 2048), q.val = min (p.val - 3) 2047 → W (ix3 q b d) = W (ix3 (rowAt p.val 0) b d) := fun q hq =>
    congrArg (fun q => W (ix3 q b d)) (Fin.ext (by rw [hq]; rfl))
  split
  · exact key 0 (by show 0 = _; omega)
  · split
    · exact key _ (by show p.val - 3 = _; omega)
    · exact key _ (by show 2047 = _; omega)

/-- The padded array's rows from `w` on, with a last axis of one. -/
def shifted (W : S2048x8x256.Idx → F .f32) (w : ℕ) (h : S2054x8x256.Slices ![w, 0, 0] S2048x8x256) : S2048x8x256x1.Idx → F .f32 :=
  broadcastInDim S2048x8x256x1 ![0, 1, 2] bcast_S2048x8x256_S2048x8x256x1_0_1_2 (extractStridedSlice S2048x8x256 ![w, 0, 0] (padded W) h)

/-- The seven shifts side by side on the last axis. -/
def stacked (W : S2048x8x256.Idx → F .f32) : S2048x8x256x7.Idx → F .f32 :=
  concatenate S2048x8x256x7 3
    [⟨S2048x8x256x1, shifted W 0 slices_S2054x8x256_S2048x8x256_0_0_0⟩, ⟨S2048x8x256x1, shifted W 1 slices_S2054x8x256_S2048x8x256_1_0_0⟩,
     ⟨S2048x8x256x1, shifted W 2 slices_S2054x8x256_S2048x8x256_2_0_0⟩, ⟨S2048x8x256x1, shifted W 3 slices_S2054x8x256_S2048x8x256_3_0_0⟩,
     ⟨S2048x8x256x1, shifted W 4 slices_S2054x8x256_S2048x8x256_4_0_0⟩, ⟨S2048x8x256x1, shifted W 5 slices_S2054x8x256_S2048x8x256_5_0_0⟩,
     ⟨S2048x8x256x1, shifted W 6 slices_S2054x8x256_S2048x8x256_6_0_0⟩]
    concatenates_S2048x8x256x1_S2048x8x256x1_S2048x8x256x1_S2048x8x256x1_S2048x8x256x1_S2048x8x256x1_S2048x8x256x1_S2048x8x256x7_d3

/-- A shift at an index: the row `w` further on, kept within the array. -/
theorem shifted_at (W : S2048x8x256.Idx → F .f32) (w : ℕ) (h : S2054x8x256.Slices ![w, 0, 0] S2048x8x256)
    (n : Fin 2048) (b : Fin 8) (d : Fin 256) (u : Fin 1) :
    shifted W w h (ix4 n b d u) = W (ix3 (rowAt n.val w) b d) := by
  have hw : w + 2048 ≤ 2054 := h.2 0
  unfold shifted
  pointwise
  rw [padded_at]
  exact congrArg (fun q => W (ix3 q b d)) (Fin.ext (by show min (w + n.val + 0 - 3) 2047 = min (n.val + w - 3) 2047; omega))

/-- The stack at an index: row `n + w - 3`, kept within the array. -/
theorem stacked_at (W : S2048x8x256.Idx → F .f32) (n : Fin 2048) (b : Fin 8) (d : Fin 256) (w : Fin 7) :
    stacked W (ix4 n b d w) = W (ix3 (rowAt n.val w.val) b d) := by
  have key : ∀ (v : ℕ) (h : S2054x8x256.Slices ![v, 0, 0] S2048x8x256) (u : Fin 1), v = w.val →
      shifted W v h (ix4 n b d u) = W (ix3 (rowAt n.val w.val) b d) := by
    rintro v h u rfl; exact shifted_at W _ h n b d u
  have hw := w.isLt
  unfold stacked
  pointwise
  repeat' split
  all_goals exact key _ _ _ (by omega)

/-- The reference's result is the windows laid out. -/
theorem result_eq (m : (ℓ : Loc nD τ sig) → Buf (Elt F) ℓ) (c : Dev nD) :
    res_main_v20 m c = unfolded (m ((c.tc : Thread nD τ).loc main_arg0) : S2048x8x256.Idx → F .f32) := by
  show shapeCast S2048x8x1792 (stacked (m ((c.tc : Thread nD τ).loc main_arg0) : S2048x8x256.Idx → F .f32)) shapeCasts_S2048x8x256x7_S2048x8x1792 = _
  funext j
  pointwise
  exact stacked_at (m ((c.tc : Thread nD τ).loc main_arg0) : S2048x8x256.Idx → F .f32) (j 0) (j 1) _ _

end Cert.ReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Fp.Frame
public import proofs.«01_k».proof.Proof.Id.Value
public import proofs.«01_k».proof.Proof.Ref.Value
public import Idealize.ShloMosaic.Lib.Quiescent

@[expose] public section

noncomputable section

namespace Cert.Proof

open Idealize.ShloMosaic Idealize.ShloMosaic.TcCoe Idealize.SL.Sem

/-- The kernel ends, its argument unchanged and every counter at zero. -/
theorem frame_kernel : Cert.quiescent_Kernel := fun m ρ _ => Cert.Kernel.Hand.frame m ρ

/-- So does its idealization, -/
theorem frame_ideal : Cert.quiescent_KernelIdeal := fun m ρ _ => Cert.KernelIdeal.Hand.frame m ρ

/-- and the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization replaced no operation. -/
theorem preserves : Cert.preserves_Kernel_KernelIdeal := trivial

/-- From equal arguments the idealized kernel and the reference end with equal results: the windows of the argument laid out. -/
theorem algebraic : Cert.algebraic_KernelIdeal_ReferenceIdeal := by
  intro m ρ m' ρ' _ hagree
  refine ⟨fun c => Cert.Hand.unfolded (m ((c.tc : Thread Cert.KernelIdeal.nD Cert.KernelIdeal.τ).loc Cert.KernelIdeal.main_arg0)),
    Cert.KernelIdeal.Hand.run_value (F := Ideal) m ρ, ?_⟩
  exact (θ_run Cert.ReferenceIdeal.defs _ _).mono
    (fun r h c => ⟨((h c).1.trans (Cert.ReferenceIdeal.Hand.result_eq m' c)).trans (congrArg Cert.Hand.unfolded (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, preserves, algebraic⟩

end Cert.Proof

end
